-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_dact [hPre_finite_dact : Cert.Pre_finite_dact.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_dact.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_dact [hPre_finite_dact : Cert.Pre_finite_dact.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_dact.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_dact [hKernel2Ideal : Cert.Kernel2Ideal.Facts] [hPre_finite_dact : Cert.Pre_finite_dact.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_dact m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_dact [hReference2Ideal : Cert.Reference2Ideal.Facts] [hPre_finite_dact : Cert.Pre_finite_dact.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_dact m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_dact [hKernel2Ideal : Cert.Kernel2Ideal.Facts] [hReference2Ideal : Cert.Reference2Ideal.Facts] [hPre_finite_dact : Cert.Pre_finite_dact.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_dact m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)) (v3 : (c : Dev Cert.Kernel14Ideal.nD) → Buf (Elt Ideal) ((c.tc : Thread Cert.Kernel14Ideal.nD Cert.Kernel14Ideal.τ).loc Cert.Kernel14Ideal.main_v5_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_v5_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_v28) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)) (v2 : (c : Dev Cert.Kernel15Ideal.nD) → Buf (Elt Ideal) ((c.tc : Thread Cert.Kernel15Ideal.nD Cert.Kernel15Ideal.τ).loc Cert.Kernel15Ideal.main_v5_2)) (v3 : (c : Dev Cert.Kernel15Ideal.nD) → Buf (Elt Ideal) ((c.tc : Thread Cert.Kernel15Ideal.nD Cert.Kernel15Ideal.τ).loc Cert.Kernel15Ideal.main_v5_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_v5_2) = v2 c
          ∧ r.2.mem ((c.tc : Thread Cert.Kernel15Ideal.nD Cert.Kernel15Ideal.τ).loc Cert.Kernel15Ideal.main_v5_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v25) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v27) = v2 c
          ∧ r.2.mem ((c.tc : Thread Cert.Reference15Ideal.nD Cert.Reference15Ideal.τ).loc Cert.Reference15Ideal.main_v28) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)) (v2 : (c : Dev Cert.Kernel16Ideal.nD) → Buf (Elt Ideal) ((c.tc : Thread Cert.Kernel16Ideal.nD Cert.Kernel16Ideal.τ).loc Cert.Kernel16Ideal.main_v5_2)) (v3 : (c : Dev Cert.Kernel16Ideal.nD) → Buf (Elt Ideal) ((c.tc : Thread Cert.Kernel16Ideal.nD Cert.Kernel16Ideal.τ).loc Cert.Kernel16Ideal.main_v5_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_v5_2) = v2 c
          ∧ r.2.mem ((c.tc : Thread Cert.Kernel16Ideal.nD Cert.Kernel16Ideal.τ).loc Cert.Kernel16Ideal.main_v5_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v25) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v27) = v2 c
          ∧ r.2.mem ((c.tc : Thread Cert.Reference16Ideal.nD Cert.Reference16Ideal.τ).loc Cert.Reference16Ideal.main_v28) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)) (v2 : (c : Dev Cert.Kernel17Ideal.nD) → Buf (Elt Ideal) ((c.tc : Thread Cert.Kernel17Ideal.nD Cert.Kernel17Ideal.τ).loc Cert.Kernel17Ideal.main_v5_2)) (v3 : (c : Dev Cert.Kernel17Ideal.nD) → Buf (Elt Ideal) ((c.tc : Thread Cert.Kernel17Ideal.nD Cert.Kernel17Ideal.τ).loc Cert.Kernel17Ideal.main_v5_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_v5_2) = v2 c
          ∧ r.2.mem ((c.tc : Thread Cert.Kernel17Ideal.nD Cert.Kernel17Ideal.τ).loc Cert.Kernel17Ideal.main_v5_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v27) = v2 c
          ∧ r.2.mem ((c.tc : Thread Cert.Reference17Ideal.nD Cert.Reference17Ideal.τ).loc Cert.Reference17Ideal.main_v28) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)) (v3 : (c : Dev Cert.Kernel18Ideal.nD) → Buf (Elt Ideal) ((c.tc : Thread Cert.Kernel18Ideal.nD Cert.Kernel18Ideal.τ).loc Cert.Kernel18Ideal.main_v5_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_v5_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v25) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v28) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v5_0)) (v1 : (c : Dev Cert.Kernel19Ideal.nD) → Buf (Elt Ideal) ((c.tc : Thread Cert.Kernel19Ideal.nD Cert.Kernel19Ideal.τ).loc Cert.Kernel19Ideal.main_v5_1)) (v2 : (c : Dev Cert.Kernel19Ideal.nD) → Buf (Elt Ideal) ((c.tc : Thread Cert.Kernel19Ideal.nD Cert.Kernel19Ideal.τ).loc Cert.Kernel19Ideal.main_v5_2)) (v3 : (c : Dev Cert.Kernel19Ideal.nD) → Buf (Elt Ideal) ((c.tc : Thread Cert.Kernel19Ideal.nD Cert.Kernel19Ideal.τ).loc Cert.Kernel19Ideal.main_v5_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5_0) = v0 c
          ∧ r.2.mem ((c.tc : Thread Cert.Kernel19Ideal.nD Cert.Kernel19Ideal.τ).loc Cert.Kernel19Ideal.main_v5_1) = v1 c
          ∧ r.2.mem ((c.tc : Thread Cert.Kernel19Ideal.nD Cert.Kernel19Ideal.τ).loc Cert.Kernel19Ideal.main_v5_2) = v2 c
          ∧ r.2.mem ((c.tc : Thread Cert.Kernel19Ideal.nD Cert.Kernel19Ideal.τ).loc Cert.Kernel19Ideal.main_v5_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v27) = v2 c
          ∧ r.2.mem ((c.tc : Thread Cert.Reference19Ideal.nD Cert.Reference19Ideal.τ).loc Cert.Reference19Ideal.main_v28) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_dact : Cert.Pre_finite_dact.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_dact (hKernel2Ideal := hKernel2Ideal) (hPre_finite_dact := hPre_finite_dact)
    ∧ quiescent_Reference2Ideal (hReference2Ideal := hReference2Ideal)
    ∧ quiescent_Reference2Ideal_pre_finite_dact (hReference2Ideal := hReference2Ideal) (hPre_finite_dact := hPre_finite_dact)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_dact (hKernel2Ideal := hKernel2Ideal) (hReference2Ideal := hReference2Ideal) (hPre_finite_dact := hPre_finite_dact)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite_dact.lean ====
abbrev S8192x8448 : Shape := ⟨2, ![8192, 8448]⟩
abbrev S8192x1280 : Shape := ⟨2, ![8192, 1280]⟩
abbrev S8192x128 : Shape := ⟨2, ![8192, 128]⟩
abbrev S4x1280 : Shape := ⟨2, ![4, 1280]⟩
abbrev S1280 : Shape := ⟨1, ![1280]⟩
abbrev S_ : Shape := ⟨0, ![]⟩

class Facts : Prop where
  bcast_S_S8192x1280 : S_.BroadcastsInDim S8192x1280 (![] : Fin 0 → Fin S8192x1280.rank)
  reducesTo_S8192x1280_S_d0_1 : S8192x1280.ReducesTo [0, 1] S_
  h_S_ : 0 < S_.numel

variable [Facts]

def fn {F : FTy → Type} [FloatOps F] (main_arg0 : FVec F S8192x8448 .f32) (main_arg1 : FVec F S8192x1280 .f32) (main_arg2 : FVec F S8192x128 .f32) (main_arg3 : FVec F S4x1280 .f32) (main_arg4 : FVec F S1280 .f32) (main_arg5 : FVec F S8192x8448 .bf16) : IVec S_ 1 :=
  let main_v0 : FVec F S8192x1280 .f32 := Host.absf main_arg1
  let main_cst : FVec F S_ .f32 := constant S_ .f32 0x7F800000#32
  let main_v1 : FVec F S8192x1280 .f32 := broadcastInDim S8192x1280 ![] bcast_S_S8192x1280 main_cst
  let main_v2 : IVec S8192x1280 1 := cmpf .olt main_v0 main_v1
  let main_c : IVec S_ 1 := constantI S_ 1 1#1
  let main_v3 : IVec S_ 1 := (fun x v => Host.reduce IntOp.andi x v reducesTo_S8192x1280_S_d0_1 h_S_) main_v2 main_c
  main_v3
-- ==== Kernel.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S1024x512, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x512, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_21 : BitVec 32 := 0#32
  let v47 : BitVec 1 := Scalar.cmpi .ne v46 c0_i32_21
  v47

def k0_cond2 (i : grid0.Coords) : BitVec 1 :=
  let arg0 : BitVec 32 := BitVec.ofNat 32 (i 0).val
  let c0_i32_22 : BitVec 32 := 0#32
  let v48 : BitVec 1 := Scalar.cmpi .sgt arg0 c0_i32_22
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x512, .f32⟩
  | .hbm, ⟨27, _⟩ => ⟨S8192x512, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel2.lean ====
abbrev S8192x8448 : Shape := ⟨2, ![8192, 8448]⟩
abbrev S8192x1280 : Shape := ⟨2, ![8192, 1280]⟩
abbrev S8192x128 : Shape := ⟨2, ![8192, 128]⟩
abbrev S4x1280 : Shape := ⟨2, ![4, 1280]⟩
abbrev S1280 : Shape := ⟨1, ![1280]⟩
abbrev S1x1280 : Shape := ⟨2, ![1, 1280]⟩
abbrev S512x1536 : Shape := ⟨2, ![512, 1536]⟩
abbrev S8x1536 : Shape := ⟨2, ![8, 1536]⟩
abbrev S512x1280 : Shape := ⟨2, ![512, 1280]⟩
abbrev S8x1280 : Shape := ⟨2, ![8, 1280]⟩
abbrev S512x128 : Shape := ⟨2, ![512, 128]⟩
abbrev S528x1280 : Shape := ⟨2, ![528, 1280]⟩
abbrev S520x1280 : Shape := ⟨2, ![520, 1280]⟩

abbrev nBuf : Space → Nat
  | .hbm => 10
  | .vmem => 18
  | .smem => 0
  | _ => 0

abbrev bufTy : (tb : Table) → Fin (tcTables nBuf tb) → BufTy
  | .hbm, ⟨0, _⟩ => ⟨S8192x8448, .f32⟩
  | .hbm, ⟨1, _⟩ => ⟨S8192x1280, .f32⟩
  | .hbm, ⟨2, _⟩ => ⟨S8192x128, .f32⟩
  | .hbm, ⟨3, _⟩ => ⟨S4x1280, .f32⟩
  | .hbm, ⟨4, _⟩ => ⟨S1280, .f32⟩
  | .hbm, ⟨5, _⟩ => ⟨S8192x8448, .bf16⟩
  | .hbm, ⟨6, _⟩ => ⟨S1x1280, .f32⟩
  | .hbm, ⟨7, _⟩ => ⟨S8192x8448, .bf16⟩
  | .hbm, ⟨8, _⟩ => ⟨S4x1280, .f32⟩
  | .hbm, ⟨9, _⟩ => ⟨S1x1280, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S512x1280, .f32⟩
  | .local _ .vmem, ⟨7, _⟩ => ⟨S512x1280, .f32⟩
  | .local _ .vmem, ⟨8, _⟩ => ⟨S8x1280, .f32⟩
  | .local _ .vmem, ⟨9, _⟩ => ⟨S8x1280, .f32⟩
  | .local _ .vmem, ⟨10, _⟩ => ⟨S512x128, .f32⟩
  | .local _ .vmem, ⟨11, _⟩ => ⟨S512x128, .f32⟩
  | .local _ .vmem, ⟨12, _⟩ => ⟨S4x1280, .f32⟩
  | .local _ .vmem, ⟨13, _⟩ => ⟨S1x1280, .f32⟩
  | .local _ .vmem, ⟨14, _⟩ => ⟨S512x1536, .bf16⟩
  | .local _ .vmem, ⟨15, _⟩ => ⟨S512x1536, .bf16⟩
  | .local _ .vmem, ⟨16, _⟩ => ⟨S4x1280, .f32⟩
  | .local _ .vmem, ⟨17, _⟩ => ⟨S1x1280, .f32⟩
  | _, _ => ⟨S8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x8448 : Shape := ⟨2, ![8192, 8448]⟩
abbrev S8192x1280 : Shape := ⟨2, ![8192, 1280]⟩
abbrev S8192x128 : Shape := ⟨2, ![8192, 128]⟩
abbrev S4x1280 : Shape := ⟨2, ![4, 1280]⟩
abbrev S1280 : Shape := ⟨1, ![1280]⟩
abbrev S_ : Shape := ⟨0, ![]⟩
abbrev S3x1280 : Shape := ⟨2, ![3, 1280]⟩
abbrev S8195x1280 : Shape := ⟨2, ![8195, 1280]⟩
abbrev S1x1280 : Shape := ⟨2, ![1, 1280]⟩
abbrev S8192x1536 : Shape := ⟨2, ![8192, 1536]⟩
abbrev S8192x4608 : Shape := ⟨2, ![8192, 4608]⟩
abbrev S8192x2304 : Shape := ⟨2, ![8192, 2304]⟩

abbrev nBuf : Space → Nat
  | .hbm => 132
  | .vmem => 0
  | .smem => 0
  | _ => 0

abbrev hbmTy0_0 (i : Nat) : BufTy := match i % 128 with
  | 0 => ⟨S8192x8448, .f32⟩
  | 1 => ⟨S8192x1280, .f32⟩
  | 2 => ⟨S8192x128, .f32⟩
  | 3 => ⟨S4x1280, .f32⟩
  | 4 => ⟨S1280, .f32⟩
  | 5 => ⟨S8192x8448, .bf16⟩
  | 6 => ⟨S8192x1280, .f32⟩
  | 7 => ⟨S_, .f32⟩
  | 8 => ⟨S3x1280, .f32⟩
  | 9 => ⟨S8195x1280, .f32⟩
  | 10 => ⟨S_, .f32⟩
  | 11 => ⟨S3x1280, .f32⟩
  | 12 => ⟨S8192x1280, .f32⟩
  | 13 => ⟨S1x1280, .f32⟩
  | 14 => ⟨S1280, .f32⟩
  | 15 => ⟨S1x1280, .f32⟩
  | 16 => ⟨S8192x1280, .f32⟩
  | 17 => ⟨S8192x1280, .f32⟩
  | 18 => ⟨S8192x1280, .f32⟩
  | 19 => ⟨S1x1280, .f32⟩
  | 20 => ⟨S1280, .f32⟩
  | 21 => ⟨S1x1280, .f32⟩
  | 22 => ⟨S8192x1280, .f32⟩
  | 23 => ⟨S8192x1280, .f32⟩
  | 24 => ⟨S8192x1280, .f32⟩
  | 25 => ⟨S8192x1280, .f32⟩
  | 26 => ⟨S1x1280, .f32⟩
  | 27 => ⟨S1280, .f32⟩
  | 28 => ⟨S1x1280, .f32⟩
  | 29 => ⟨S8192x1280, .f32⟩
  | 30 => ⟨S8192x1280, .f32⟩
  | 31 => ⟨S8192x1280, .f32⟩
  | 32 => ⟨S8192x1280, .f32⟩
  | 33 => ⟨S1x1280, .f32⟩
  | 34 => ⟨S1280, .f32⟩
  | 35 => ⟨S1x1280, .f32⟩
  | 36 => ⟨S8192x1280, .f32⟩
  | 37 => ⟨S8192x1280, .f32⟩
  | 38 => ⟨S8192x1280, .f32⟩
  | 39 => ⟨S1x1280, .f32⟩
  | 40 => ⟨S8192x1280, .f32⟩
  | 41 => ⟨S8192x1280, .f32⟩
  | 42 => ⟨S8192x1280, .f32⟩
  | 43 => ⟨S8192x1280, .f32⟩
  | 44 => ⟨S_, .f32⟩
  | 45 => ⟨S8192x1280, .f32⟩
  | 46 => ⟨S8192x1280, .f32⟩
  | 47 => ⟨S_, .f32⟩
  | 48 => ⟨S8192x1280, .f32⟩
  | 49 => ⟨S8192x1280, .f32⟩
  | 50 => ⟨S_, .f32⟩
  | 51 => ⟨S8192x1280, .f32⟩
  | 52 => ⟨S8192x1280, .f32⟩
  | 53 => ⟨S8192x1280, .f32⟩
  | 54 => ⟨S8192x1280, .f32⟩
  | 55 => ⟨S8192x1280, .f32⟩
  | 56 => ⟨S8192x1280, .f32⟩
  | 57 => ⟨S8192x1280, .f32⟩
  | 58 => ⟨S8192x1280, .f32⟩
  | 59 => ⟨S_, .f32⟩
  | 60 => ⟨S1280, .f32⟩
  | 61 => ⟨S1x1280, .f32⟩
  | 62 => ⟨S_, .f32⟩
  | 63 => ⟨S1280, .f32⟩
  | 64 => ⟨S8192x1280, .f32⟩
  | 65 => ⟨S_, .f32⟩
  | 66 => ⟨S1280, .f32⟩
  | 67 => ⟨S1x1280, .f32⟩
  | 68 => ⟨S8192x1280, .f32⟩
  | 69 => ⟨S8192x1280, .f32⟩
  | 70 => ⟨S_, .f32⟩
  | 71 => ⟨S1280, .f32⟩
  | 72 => ⟨S1x1280, .f32⟩
  | 73 => ⟨S_, .f32⟩
  | 74 => ⟨S4x1280, .f32⟩
  | 75 => ⟨S_, .f32⟩
  | 76 => ⟨S8195x1280, .f32⟩
  | 77 => ⟨S8192x1280, .f32⟩
  | 78 => ⟨S_, .f32⟩
  | 79 => ⟨S1280, .f32⟩
  | 80 => ⟨S1x1280, .f32⟩
  | 81 => ⟨S8192x1280, .f32⟩
  | 82 => ⟨S8192x1280, .f32⟩
  | 83 => ⟨S_, .f32⟩
  | 84 => ⟨S1280, .f32⟩
  | 85 => ⟨S1x1280, .f32⟩
  | 86 => ⟨S_, .f32⟩
  | 87 => ⟨S4x1280, .f32⟩
  | 88 => ⟨S4x1280, .f32⟩
  | 89 => ⟨S_, .f32⟩
  | 90 => ⟨S8195x1280, .f32⟩
  | 91 => ⟨S8195x1280, .f32⟩
  | 92 => ⟨S8192x1280, .f32⟩
  | 93 => ⟨S_, .f32⟩
  | 94 => ⟨S1280, .f32⟩
  | 95 => ⟨S1x1280, .f32⟩
  | 96 => ⟨S8192x1280, .f32⟩
  | 97 => ⟨S8192x1280, .f32⟩
  | 98 => ⟨S_, .f32⟩
  | 99 => ⟨S1280, .f32⟩
  | 100 => ⟨S1x1280, .f32⟩
  | 101 => ⟨S_, .f32⟩
  | 102 => ⟨S4x1280, .f32⟩
  | 103 => ⟨S4x1280, .f32⟩
  | 104 => ⟨S_, .f32⟩
  | 105 => ⟨S8195x1280, .f32⟩
  | 106 => ⟨S8195x1280, .f32⟩
  | 107 => ⟨S8192x1280, .f32⟩
  | 108 => ⟨S_, .f32⟩
  | 109 => ⟨S1280, .f32⟩
  | 110 => ⟨S1x1280, .f32⟩
  | 111 => ⟨S8192x1280, .f32⟩
  | 112 => ⟨S8192x1280, .f32⟩
  | 113 => ⟨S_, .f32⟩
  | 114 => ⟨S1280, .f32⟩
  | 115 => ⟨S1x1280, .f32⟩
  | 116 => ⟨S_, .f32⟩
  | 117 => ⟨S4x1280, .f32⟩
  | 118 => ⟨S4x1280, .f32⟩
  | 119 => ⟨S_, .f32⟩
  | 120 => ⟨S8195x1280, .f32⟩
  | 121 => ⟨S8195x1280, .f32⟩
  | 122 => ⟨S3x1280, .f32⟩
  | 123 => ⟨S8192x1280, .f32⟩
  | 124 => ⟨S_, .f32⟩
  | 125 => ⟨S8192x128, .f32⟩
  | 126 => ⟨S8192x1536, .f32⟩
  | 127 => ⟨S8192x1536, .bf16⟩
  | _ => ⟨S8192x8448, .f32⟩

abbrev hbmTy0_1 (i : Nat) : BufTy := match i % 128 with
  | 0 => ⟨S8192x4608, .bf16⟩
  | 1 => ⟨S8192x2304, .bf16⟩
  | 2 => ⟨S8192x8448, .bf16⟩
  | 3 => ⟨S1x1280, .f32⟩
  | _ => ⟨S8192x8448, .f32⟩

abbrev hbmTy (i : Nat) : BufTy := match i / 128 with
  | 0 => hbmTy0_0 i
  | 1 => hbmTy0_1 i
  | _ => ⟨S8192x8448, .f32⟩

abbrev bufTy : (tb : Table) → Fin (tcTables nBuf tb) → BufTy
  | .hbm, ⟨i, _⟩ => hbmTy i
  | _, _ => ⟨S8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_cst_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_19 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩

abbrev nD : Nat := 1
abbrev τ : Topo := Topo.v7x

variable {F : FTy → Type} [FloatOps F]
-- ==== Kernel3.lean ====
abbrev S8192x8448 : Shape := ⟨2, ![8192, 8448]⟩
abbrev S1024x8448 : Shape := ⟨2, ![1024, 8448]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x8448, .bf16⟩
  | .hbm, ⟨1, _⟩ => ⟨S1024x8448, .f32⟩
  | .hbm, ⟨2, _⟩ => ⟨S1024x8448, .bf16⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S8192x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x8448 : Shape := ⟨2, ![8192, 8448]⟩
abbrev S1024x8448 : Shape := ⟨2, ![1024, 8448]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x8448, .bf16⟩
  | .hbm, ⟨1, _⟩ => ⟨S1024x8448, .f32⟩
  | .hbm, ⟨2, _⟩ => ⟨S_, .f32⟩
  | .hbm, ⟨3, _⟩ => ⟨S8192x1024, .f32⟩
  | .hbm, ⟨4, _⟩ => ⟨S8192x8448, .f32⟩
  | .hbm, ⟨5, _⟩ => ⟨S8192x8448, .f32⟩
  | .hbm, ⟨6, _⟩ => ⟨S8192x1024, .f32⟩
  | _, _ => ⟨S8192x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S8192x8448 : Shape := ⟨2, ![8192, 8448]⟩
abbrev S1024x8448 : Shape := ⟨2, ![1024, 8448]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x8448, .bf16⟩
  | .hbm, ⟨2, _⟩ => ⟨S1024x8448, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x8448 : Shape := ⟨2, ![8192, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8448, .bf16⟩
  | .hbm, ⟨2, _⟩ => ⟨S_, .f32⟩
  | .hbm, ⟨3, _⟩ => ⟨S1024x8448, .f32⟩
  | .hbm, ⟨4, _⟩ => ⟨S8192x1024, .f32⟩
  | .hbm, ⟨5, _⟩ => ⟨S8192x8448, .f32⟩
  | .hbm, ⟨6, _⟩ => ⟨S8192x8448, .f32⟩
  | .hbm, ⟨7, _⟩ => ⟨S8448x1024, .f32⟩
  | .hbm, ⟨8, _⟩ => ⟨S1024x8448, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x512 : Shape := ⟨2, ![8192, 512]⟩
abbrev S512x512 : Shape := ⟨2, ![512, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x512 : Shape := ⟨2, ![8192, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S8192x768 : Shape := ⟨2, ![8192, 768]⟩
abbrev S8192x1024 : Shape := ⟨2, ![8192, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S_, .f32⟩
  | .hbm, ⟨3, _⟩ => ⟨S768x1024, .f32⟩
  | .hbm, ⟨4, _⟩ => ⟨S8192x768, .f32⟩
  | .hbm, ⟨5, _⟩ => ⟨S8192x1024, .f32⟩
  | .hbm, ⟨6, _⟩ => ⟨S8192x1024, .f32⟩
  | .hbm, ⟨7, _⟩ => ⟨S1024x768, .f32⟩
  | .hbm, ⟨8, _⟩ => ⟨S768x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x8448 : Shape := ⟨2, ![1024, 8448]⟩
abbrev S8192x8448 : Shape := ⟨2, ![8192, 8448]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8448, .f32⟩
  | .hbm, ⟨2, _⟩ => ⟨S1024x8448, .bf16⟩
  | .hbm, ⟨3, _⟩ => ⟨S8192x8448, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .f32⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x8448 : Shape := ⟨2, ![1024, 8448]⟩
abbrev S8192x8448 : Shape := ⟨2, ![8192, 8448]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8448, .f32⟩
  | .hbm, ⟨2, _⟩ => ⟨S8192x1024, .f32⟩
  | .hbm, ⟨3, _⟩ => ⟨S8192x8448, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .f32⟩
  | .hbm, ⟨2, _⟩ => ⟨S1024x512, .bf16⟩
  | .hbm, ⟨3, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .f32⟩
  | .hbm, ⟨2, _⟩ => ⟨S8192x1024, .f32⟩
  | .hbm, ⟨3, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4x1024x2179 : Shape := ⟨3, ![4, 1024, 2179]⟩
abbrev S1024x2179 : Shape := ⟨2, ![1024, 2179]⟩
abbrev S4x256x2179 : Shape := ⟨3, ![4, 256, 2179]⟩
abbrev S256x2179 : Shape := ⟨2, ![256, 2179]⟩
abbrev S1x256x2179 : Shape := ⟨3, ![1, 256, 2179]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x2179, .bf16⟩
  | .hbm, ⟨1, _⟩ => ⟨S1024x2179, .f32⟩
  | .hbm, ⟨2, _⟩ => ⟨S1024x2179, .f32⟩
  | .hbm, ⟨3, _⟩ => ⟨S1024x2179, .f32⟩
  | .hbm, ⟨4, _⟩ => ⟨S1024x2179, .f32⟩
  | .hbm, ⟨5, _⟩ => ⟨S1024x2179, .f32⟩
  | .hbm, ⟨6, _⟩ => ⟨S1024x2179, .f32⟩
  | .hbm, ⟨7, _⟩ => ⟨S1024x2179, .f32⟩
  | .local _ .vmem, ⟨0, _⟩ => ⟨S4x256x2179, .bf16⟩
  | .local _ .vmem, ⟨1, _⟩ => ⟨S4x256x2179, .bf16⟩
  | .local _ .vmem, ⟨2, _⟩ => ⟨S256x2179, .f32⟩
  | .local _ .vmem, ⟨3, _⟩ => ⟨S256x2179, .f32⟩
  | .local _ .vmem, ⟨4, _⟩ => ⟨S256x2179, .f32⟩
  | .local _ .vmem, ⟨5, _⟩ => ⟨S256x2179, .f32⟩
  | .local _ .vmem, ⟨6, _⟩ => ⟨S256x2179, .f32⟩
  | .local _ .vmem, ⟨7, _⟩ => ⟨S256x2179, .f32⟩
  | .local _ .vmem, ⟨8, _⟩ => ⟨S256x2179, .f32⟩
  | .local _ .vmem, ⟨9, _⟩ => ⟨S256x2179, .f32⟩
  | .local _ .vmem, ⟨10, _⟩ => ⟨S256x2179, .f32⟩
  | .local _ .vmem, ⟨11, _⟩ => ⟨S256x2179, .f32⟩
  | .local _ .vmem, ⟨12, _⟩ => ⟨S256x2179, .f32⟩
  | .local _ .vmem, ⟨13, _⟩ => ⟨S256x2179, .f32⟩
  | .local _ .vmem, ⟨14, _⟩ => ⟨S256x2179, .f32⟩
  | .local _ .vmem, ⟨15, _⟩ => ⟨S256x2179, .f32⟩
  | _, _ => ⟨S4x1024x2179, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2179 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2179 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2179 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2179 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2179 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2179 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2179 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2179 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4x1024x2179 : Shape := ⟨3, ![4, 1024, 2179]⟩
abbrev S1024x2179 : Shape := ⟨2, ![1024, 2179]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2179, .bf16⟩
  | .hbm, ⟨1, _⟩ => ⟨S1024x2179, .f32⟩
  | .hbm, ⟨2, _⟩ => ⟨S1024x2179, .f32⟩
  | .hbm, ⟨3, _⟩ => ⟨S1024x2179, .f32⟩
  | .hbm, ⟨4, _⟩ => ⟨S4x1024x2179, .f32⟩
  | .hbm, ⟨5, _⟩ => ⟨S_, .f32⟩
  | .hbm, ⟨6, _⟩ => ⟨S1024x2179, .f32⟩
  | .hbm, ⟨7, _⟩ => ⟨S_, .f32⟩
  | .hbm, ⟨8, _⟩ => ⟨S1024x2179, .f32⟩
  | .hbm, ⟨9, _⟩ => ⟨S1024x2179, .f32⟩
  | .hbm, ⟨10, _⟩ => ⟨S_, .f32⟩
  | .hbm, ⟨11, _⟩ => ⟨S1024x2179, .f32⟩
  | .hbm, ⟨12, _⟩ => ⟨S1024x2179, .f32⟩
  | .hbm, ⟨13, _⟩ => ⟨S1024x2179, .f32⟩
  | .hbm, ⟨14, _⟩ => ⟨S_, .f32⟩
  | .hbm, ⟨15, _⟩ => ⟨S1024x2179, .f32⟩
  | .hbm, ⟨16, _⟩ => ⟨S1024x2179, .f32⟩
  | .hbm, ⟨17, _⟩ => ⟨S1024x2179, .f32⟩
  | .hbm, ⟨18, _⟩ => ⟨S_, .f32⟩
  | .hbm, ⟨19, _⟩ => ⟨S1024x2179, .f32⟩
  | .hbm, ⟨20, _⟩ => ⟨S1024x2179, .f32⟩
  | .hbm, ⟨21, _⟩ => ⟨S1024x2179, .f32⟩
  | .hbm, ⟨22, _⟩ => ⟨S_, .f32⟩
  | .hbm, ⟨23, _⟩ => ⟨S1024x2179, .f32⟩
  | .hbm, ⟨24, _⟩ => ⟨S1024x2179, .f32⟩
  | .hbm, ⟨25, _⟩ => ⟨S_, .f32⟩
  | .hbm, ⟨26, _⟩ => ⟨S1024x2179, .f32⟩
  | .hbm, ⟨27, _⟩ => ⟨S1024x2179, .f32⟩
  | .hbm, ⟨28, _⟩ => ⟨S1024x2179, .f32⟩
  | .hbm, ⟨29, _⟩ => ⟨S_, .f32⟩
  | .hbm, ⟨30, _⟩ => ⟨S1024x2179, .f32⟩
  | .hbm, ⟨31, _⟩ => ⟨S1024x2179, .f32⟩
  | .hbm, ⟨32, _⟩ => ⟨S1024x2179, .f32⟩
  | .hbm, ⟨33, _⟩ => ⟨S_, .f32⟩
  | .hbm, ⟨34, _⟩ => ⟨S1024x2179, .f32⟩
  | .hbm, ⟨35, _⟩ => ⟨S1024x2179, .f32⟩
  | .hbm, ⟨36, _⟩ => ⟨S1024x2179, .f32⟩
  | .hbm, ⟨37, _⟩ => ⟨S_, .f32⟩
  | .hbm, ⟨38, _⟩ => ⟨S1024x2179, .f32⟩
  | .hbm, ⟨39, _⟩ => ⟨S1024x2179, .f32⟩
  | _, _ => ⟨S4x1024x2179, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S2x128x512 : Shape := ⟨3, ![2, 128, 512]⟩
abbrev S256x512 : Shape := ⟨2, ![256, 512]⟩

abbrev nBuf : Space → Nat
  | .hbm => 14
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel14Ideal.lean ====
abbrev S2x128x512 : Shape := ⟨3, ![2, 128, 512]⟩
abbrev S256x512 : Shape := ⟨2, ![256, 512]⟩

abbrev nBuf : Space → Nat
  | .hbm => 14
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference14Ideal.lean ====
abbrev S2x128x512 : Shape := ⟨3, ![2, 128, 512]⟩
abbrev S_ : Shape := ⟨0, ![]⟩
abbrev S256x512 : Shape := ⟨2, ![256, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S_, .f32⟩
  | .hbm, ⟨7, _⟩ => ⟨S2x128x512, .f32⟩
  | .hbm, ⟨8, _⟩ => ⟨S2x128x512, .f32⟩
  | .hbm, ⟨9, _⟩ => ⟨S_, .f32⟩
  | .hbm, ⟨10, _⟩ => ⟨S2x128x512, .f32⟩
  | .hbm, ⟨11, _⟩ => ⟨S2x128x512, .f32⟩
  | .hbm, ⟨12, _⟩ => ⟨S2x128x512, .f32⟩
  | .hbm, ⟨13, _⟩ => ⟨S_, .f32⟩
  | .hbm, ⟨14, _⟩ => ⟨S2x128x512, .f32⟩
  | .hbm, ⟨15, _⟩ => ⟨S2x128x512, .f32⟩
  | .hbm, ⟨16, _⟩ => ⟨S2x128x512, .f32⟩
  | .hbm, ⟨17, _⟩ => ⟨S_, .f32⟩
  | .hbm, ⟨18, _⟩ => ⟨S2x128x512, .f32⟩
  | .hbm, ⟨19, _⟩ => ⟨S2x128x512, .f32⟩
  | .hbm, ⟨20, _⟩ => ⟨S2x128x512, .f32⟩
  | .hbm, ⟨21, _⟩ => ⟨S_, .f32⟩
  | .hbm, ⟨22, _⟩ => ⟨S2x128x512, .f32⟩
  | .hbm, ⟨23, _⟩ => ⟨S2x128x512, .f32⟩
  | .hbm, ⟨24, _⟩ => ⟨S_, .f32⟩
  | .hbm, ⟨25, _⟩ => ⟨S2x128x512, .f32⟩
  | .hbm, ⟨26, _⟩ => ⟨S2x128x512, .f32⟩
  | .hbm, ⟨27, _⟩ => ⟨S2x128x512, .f32⟩
  | .hbm, ⟨28, _⟩ => ⟨S_, .f32⟩
  | .hbm, ⟨29, _⟩ => ⟨S2x128x512, .f32⟩
  | .hbm, ⟨30, _⟩ => ⟨S2x128x512, .f32⟩
  | .hbm, ⟨31, _⟩ => ⟨S2x128x512, .f32⟩
  | .hbm, ⟨32, _⟩ => ⟨S_, .f32⟩
  | .hbm, ⟨33, _⟩ => ⟨S2x128x512, .f32⟩
  | .hbm, ⟨34, _⟩ => ⟨S2x128x512, .f32⟩
  | .hbm, ⟨35, _⟩ => ⟨S2x128x512, .f32⟩
  | .hbm, ⟨36, _⟩ => ⟨S_, .f32⟩
  | .hbm, ⟨37, _⟩ => ⟨S2x128x512, .f32⟩
  | .hbm, ⟨38, _⟩ => ⟨S2x128x512, .f32⟩
  | .hbm, ⟨39, _⟩ => ⟨S256x512, .f32⟩
  | .hbm, ⟨40, _⟩ => ⟨S256x512, .f32⟩
  | .hbm, ⟨41, _⟩ => ⟨S256x512, .f32⟩
  | .hbm, ⟨42, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel15.lean ====
abbrev S2x4x320 : Shape := ⟨3, ![2, 4, 320]⟩
abbrev S8x320 : Shape := ⟨2, ![8, 320]⟩

abbrev nBuf : Space → Nat
  | .hbm => 14
  | .vmem => 9
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S2x4x320, .f32⟩
  | .hbm, ⟨5, _⟩ => ⟨S8x320, .f32⟩
  | .hbm, ⟨6, _⟩ => ⟨S8x320, .f32⟩
  | .hbm, ⟨7, _⟩ => ⟨S8x320, .f32⟩
  | .hbm, ⟨8, _⟩ => ⟨S8x320, .f32⟩
  | .hbm, ⟨9, _⟩ => ⟨S8x320, .f32⟩
  | .hbm, ⟨10, _⟩ => ⟨S8x320, .f32⟩
  | .hbm, ⟨11, _⟩ => ⟨S8x320, .f32⟩
  | .hbm, ⟨12, _⟩ => ⟨S8x320, .f32⟩
  | .hbm, ⟨13, _⟩ => ⟨S8x320, .f32⟩
  | .local _ .vmem, ⟨0, _⟩ => ⟨S8x320, .f32⟩
  | .local _ .vmem, ⟨1, _⟩ => ⟨S8x320, .f32⟩
  | .local _ .vmem, ⟨2, _⟩ => ⟨S8x320, .f32⟩
  | .local _ .vmem, ⟨3, _⟩ => ⟨S8x320, .f32⟩
  | .local _ .vmem, ⟨4, _⟩ => ⟨S8x320, .f32⟩
  | .local _ .vmem, ⟨5, _⟩ => ⟨S8x320, .f32⟩
  | .local _ .vmem, ⟨6, _⟩ => ⟨S8x320, .f32⟩
  | .local _ .vmem, ⟨7, _⟩ => ⟨S8x320, .f32⟩
  | .local _ .vmem, ⟨8, _⟩ => ⟨S8x320, .f32⟩
  | _, _ => ⟨S2x4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel15Ideal.lean ====
abbrev S2x4x320 : Shape := ⟨3, ![2, 4, 320]⟩
abbrev S8x320 : Shape := ⟨2, ![8, 320]⟩

abbrev nBuf : Space → Nat
  | .hbm => 14
  | .vmem => 9
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S2x4x320, .f32⟩
  | .hbm, ⟨5, _⟩ => ⟨S8x320, .f32⟩
  | .hbm, ⟨6, _⟩ => ⟨S8x320, .f32⟩
  | .hbm, ⟨7, _⟩ => ⟨S8x320, .f32⟩
  | .hbm, ⟨8, _⟩ => ⟨S8x320, .f32⟩
  | .hbm, ⟨9, _⟩ => ⟨S8x320, .f32⟩
  | .hbm, ⟨10, _⟩ => ⟨S8x320, .f32⟩
  | .hbm, ⟨11, _⟩ => ⟨S8x320, .f32⟩
  | .hbm, ⟨12, _⟩ => ⟨S8x320, .f32⟩
  | .hbm, ⟨13, _⟩ => ⟨S8x320, .f32⟩
  | .local _ .vmem, ⟨0, _⟩ => ⟨S8x320, .f32⟩
  | .local _ .vmem, ⟨1, _⟩ => ⟨S8x320, .f32⟩
  | .local _ .vmem, ⟨2, _⟩ => ⟨S8x320, .f32⟩
  | .local _ .vmem, ⟨3, _⟩ => ⟨S8x320, .f32⟩
  | .local _ .vmem, ⟨4, _⟩ => ⟨S8x320, .f32⟩
  | .local _ .vmem, ⟨5, _⟩ => ⟨S8x320, .f32⟩
  | .local _ .vmem, ⟨6, _⟩ => ⟨S8x320, .f32⟩
  | .local _ .vmem, ⟨7, _⟩ => ⟨S8x320, .f32⟩
  | .local _ .vmem, ⟨8, _⟩ => ⟨S8x320, .f32⟩
  | _, _ => ⟨S2x4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x320 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S2x4x320 : Shape := ⟨3, ![2, 4, 320]⟩
abbrev S_ : Shape := ⟨0, ![]⟩
abbrev S8x320 : Shape := ⟨2, ![8, 320]⟩

abbrev nBuf : Space → Nat
  | .hbm => 43
  | .vmem => 0
  | .smem => 0
  | _ => 0

abbrev bufTy : (tb : Table) → Fin (tcTables nBuf tb) → BufTy
  | .hbm, ⟨0, _⟩ => ⟨S2x4x320, .f32⟩
  | .hbm, ⟨1, _⟩ => ⟨S2x4x320, .f32⟩
  | .hbm, ⟨2, _⟩ => ⟨S2x4x320, .f32⟩
  | .hbm, ⟨3, _⟩ => ⟨S2x4x320, .f32⟩
  | .hbm, ⟨4, _⟩ => ⟨S2x4x320, .f32⟩
  | .hbm, ⟨5, _⟩ => ⟨S2x4x320, .f32⟩
  | .hbm, ⟨6, _⟩ => ⟨S_, .f32⟩
  | .hbm, ⟨7, _⟩ => ⟨S2x4x320, .f32⟩
  | .hbm, ⟨8, _⟩ => ⟨S2x4x320, .f32⟩
  | .hbm, ⟨9, _⟩ => ⟨S_, .f32⟩
  | .hbm, ⟨10, _⟩ => ⟨S2x4x320, .f32⟩
  | .hbm, ⟨11, _⟩ => ⟨S2x4x320, .f32⟩
  | .hbm, ⟨12, _⟩ => ⟨S2x4x320, .f32⟩
  | .hbm, ⟨13, _⟩ => ⟨S_, .f32⟩
  | .hbm, ⟨14, _⟩ => ⟨S2x4x320, .f32⟩
  | .hbm, ⟨15, _⟩ => ⟨S2x4x320, .f32⟩
  | .hbm, ⟨16, _⟩ => ⟨S2x4x320, .f32⟩
  | .hbm, ⟨17, _⟩ => ⟨S_, .f32⟩
  | .hbm, ⟨18, _⟩ => ⟨S2x4x320, .f32⟩
  | .hbm, ⟨19, _⟩ => ⟨S2x4x320, .f32⟩
  | .hbm, ⟨20, _⟩ => ⟨S2x4x320, .f32⟩
  | .hbm, ⟨21, _⟩ => ⟨S_, .f32⟩
  | .hbm, ⟨22, _⟩ => ⟨S2x4x320, .f32⟩
  | .hbm, ⟨23, _⟩ => ⟨S2x4x320, .f32⟩
  | .hbm, ⟨24, _⟩ => ⟨S_, .f32⟩
  | .hbm, ⟨25, _⟩ => ⟨S2x4x320, .f32⟩
  | .hbm, ⟨26, _⟩ => ⟨S2x4x320, .f32⟩
  | .hbm, ⟨27, _⟩ => ⟨S2x4x320, .f32⟩
  | .hbm, ⟨28, _⟩ => ⟨S_, .f32⟩
  | .hbm, ⟨29, _⟩ => ⟨S2x4x320, .f32⟩
  | .hbm, ⟨30, _⟩ => ⟨S2x4x320, .f32⟩
  | .hbm, ⟨31, _⟩ => ⟨S2x4x320, .f32⟩
  | .hbm, ⟨32, _⟩ => ⟨S_, .f32⟩
  | .hbm, ⟨33, _⟩ => ⟨S2x4x320, .f32⟩
  | .hbm, ⟨34, _⟩ => ⟨S2x4x320, .f32⟩
  | .hbm, ⟨35, _⟩ => ⟨S2x4x320, .f32⟩
  | .hbm, ⟨36, _⟩ => ⟨S_, .f32⟩
  | .hbm, ⟨37, _⟩ => ⟨S2x4x320, .f32⟩
  | .hbm, ⟨38, _⟩ => ⟨S2x4x320, .f32⟩
  | .hbm, ⟨39, _⟩ => ⟨S8x320, .f32⟩
  | .hbm, ⟨40, _⟩ => ⟨S8x320, .f32⟩
  | .hbm, ⟨41, _⟩ => ⟨S8x320, .f32⟩
  | .hbm, ⟨42, _⟩ => ⟨S8x320, .f32⟩
  | _, _ => ⟨S2x4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel16.lean ====
abbrev S2x512x256 : Shape := ⟨3, ![2, 512, 256]⟩
abbrev S1024x256 : Shape := ⟨2, ![1024, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S2x512x256 : Shape := ⟨3, ![2, 512, 256]⟩
abbrev S1024x256 : Shape := ⟨2, ![1024, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S_, .f32⟩
  | .hbm, ⟨7, _⟩ => ⟨S2x512x256, .f32⟩
  | .hbm, ⟨8, _⟩ => ⟨S2x512x256, .f32⟩
  | .hbm, ⟨9, _⟩ => ⟨S_, .f32⟩
  | .hbm, ⟨10, _⟩ => ⟨S2x512x256, .f32⟩
  | .hbm, ⟨11, _⟩ => ⟨S2x512x256, .f32⟩
  | .hbm, ⟨12, _⟩ => ⟨S2x512x256, .f32⟩
  | .hbm, ⟨13, _⟩ => ⟨S_, .f32⟩
  | .hbm, ⟨14, _⟩ => ⟨S2x512x256, .f32⟩
  | .hbm, ⟨15, _⟩ => ⟨S2x512x256, .f32⟩
  | .hbm, ⟨16, _⟩ => ⟨S2x512x256, .f32⟩
  | .hbm, ⟨17, _⟩ => ⟨S_, .f32⟩
  | .hbm, ⟨18, _⟩ => ⟨S2x512x256, .f32⟩
  | .hbm, ⟨19, _⟩ => ⟨S2x512x256, .f32⟩
  | .hbm, ⟨20, _⟩ => ⟨S2x512x256, .f32⟩
  | .hbm, ⟨21, _⟩ => ⟨S_, .f32⟩
  | .hbm, ⟨22, _⟩ => ⟨S2x512x256, .f32⟩
  | .hbm, ⟨23, _⟩ => ⟨S2x512x256, .f32⟩
  | .hbm, ⟨24, _⟩ => ⟨S_, .f32⟩
  | .hbm, ⟨25, _⟩ => ⟨S2x512x256, .f32⟩
  | .hbm, ⟨26, _⟩ => ⟨S2x512x256, .f32⟩
  | .hbm, ⟨27, _⟩ => ⟨S2x512x256, .f32⟩
  | .hbm, ⟨28, _⟩ => ⟨S_, .f32⟩
  | .hbm, ⟨29, _⟩ => ⟨S2x512x256, .f32⟩
  | .hbm, ⟨30, _⟩ => ⟨S2x512x256, .f32⟩
  | .hbm, ⟨31, _⟩ => ⟨S2x512x256, .f32⟩
  | .hbm, ⟨32, _⟩ => ⟨S_, .f32⟩
  | .hbm, ⟨33, _⟩ => ⟨S2x512x256, .f32⟩
  | .hbm, ⟨34, _⟩ => ⟨S2x512x256, .f32⟩
  | .hbm, ⟨35, _⟩ => ⟨S2x512x256, .f32⟩
  | .hbm, ⟨36, _⟩ => ⟨S_, .f32⟩
  | .hbm, ⟨37, _⟩ => ⟨S2x512x256, .f32⟩
  | .hbm, ⟨38, _⟩ => ⟨S2x512x256, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel17.lean ====
abbrev S2x256x256 : Shape := ⟨3, ![2, 256, 256]⟩
abbrev S512x256 : Shape := ⟨2, ![512, 256]⟩

abbrev nBuf : Space → Nat
  | .hbm => 14
  | .vmem => 9
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel17Ideal.lean ====
abbrev S2x256x256 : Shape := ⟨3, ![2, 256, 256]⟩
abbrev S512x256 : Shape := ⟨2, ![512, 256]⟩

abbrev nBuf : Space → Nat
  | .hbm => 14
  | .vmem => 9
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference17Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S_, .f32⟩
  | .hbm, ⟨7, _⟩ => ⟨S2x256x256, .f32⟩
  | .hbm, ⟨8, _⟩ => ⟨S2x256x256, .f32⟩
  | .hbm, ⟨9, _⟩ => ⟨S_, .f32⟩
  | .hbm, ⟨10, _⟩ => ⟨S2x256x256, .f32⟩
  | .hbm, ⟨11, _⟩ => ⟨S2x256x256, .f32⟩
  | .hbm, ⟨12, _⟩ => ⟨S2x256x256, .f32⟩
  | .hbm, ⟨13, _⟩ => ⟨S_, .f32⟩
  | .hbm, ⟨14, _⟩ => ⟨S2x256x256, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S2x256x256, .f32⟩
  | .hbm, ⟨28, _⟩ => ⟨S_, .f32⟩
  | .hbm, ⟨29, _⟩ => ⟨S2x256x256, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel18.lean ====
abbrev S2x768x256 : Shape := ⟨3, ![2, 768, 256]⟩
abbrev S1536x256 : Shape := ⟨2, ![1536, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S2x768x256, .f32⟩
  | .hbm, ⟨1, _⟩ => ⟨S2x768x256, .f32⟩
  | .hbm, ⟨2, _⟩ => ⟨S2x768x256, .f32⟩
  | .hbm, ⟨3, _⟩ => ⟨S2x768x256, .f32⟩
  | .hbm, ⟨4, _⟩ => ⟨S2x768x256, .f32⟩
  | .hbm, ⟨5, _⟩ => ⟨S1536x256, .f32⟩
  | .hbm, ⟨6, _⟩ => ⟨S1536x256, .f32⟩
  | .hbm, ⟨7, _⟩ => ⟨S1536x256, .f32⟩
  | .hbm, ⟨8, _⟩ => ⟨S1536x256, .f32⟩
  | .hbm, ⟨9, _⟩ => ⟨S1536x256, .f32⟩
  | .hbm, ⟨10, _⟩ => ⟨S1536x256, .f32⟩
  | .hbm, ⟨11, _⟩ => ⟨S1536x256, .f32⟩
  | .hbm, ⟨12, _⟩ => ⟨S1536x256, .f32⟩
  | .hbm, ⟨13, _⟩ => ⟨S1536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S2x768x256 : Shape := ⟨3, ![2, 768, 256]⟩
abbrev S1536x256 : Shape := ⟨2, ![1536, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S2x768x256, .f32⟩
  | .hbm, ⟨1, _⟩ => ⟨S2x768x256, .f32⟩
  | .hbm, ⟨2, _⟩ => ⟨S2x768x256, .f32⟩
  | .hbm, ⟨3, _⟩ => ⟨S2x768x256, .f32⟩
  | .hbm, ⟨4, _⟩ => ⟨S2x768x256, .f32⟩
  | .hbm, ⟨5, _⟩ => ⟨S1536x256, .f32⟩
  | .hbm, ⟨6, _⟩ => ⟨S1536x256, .f32⟩
  | .hbm, ⟨7, _⟩ => ⟨S1536x256, .f32⟩
  | .hbm, ⟨8, _⟩ => ⟨S1536x256, .f32⟩
  | .hbm, ⟨9, _⟩ => ⟨S1536x256, .f32⟩
  | .hbm, ⟨10, _⟩ => ⟨S1536x256, .f32⟩
  | .hbm, ⟨11, _⟩ => ⟨S1536x256, .f32⟩
  | .hbm, ⟨12, _⟩ => ⟨S1536x256, .f32⟩
  | .hbm, ⟨13, _⟩ => ⟨S1536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S2x768x256 : Shape := ⟨3, ![2, 768, 256]⟩
abbrev S_ : Shape := ⟨0, ![]⟩
abbrev S1536x256 : Shape := ⟨2, ![1536, 256]⟩

abbrev nBuf : Space → Nat
  | .hbm => 43
  | .vmem => 0
  | .smem => 0
  | _ => 0

abbrev bufTy : (tb : Table) → Fin (tcTables nBuf tb) → BufTy
  | .hbm, ⟨0, _⟩ => ⟨S2x768x256, .f32⟩
  | .hbm, ⟨1, _⟩ => ⟨S2x768x256, .f32⟩
  | .hbm, ⟨2, _⟩ => ⟨S2x768x256, .f32⟩
  | .hbm, ⟨3, _⟩ => ⟨S2x768x256, .f32⟩
  | .hbm, ⟨4, _⟩ => ⟨S2x768x256, .f32⟩
  | .hbm, ⟨5, _⟩ => ⟨S2x768x256, .f32⟩
  | .hbm, ⟨6, _⟩ => ⟨S_, .f32⟩
  | .hbm, ⟨7, _⟩ => ⟨S2x768x256, .f32⟩
  | .hbm, ⟨8, _⟩ => ⟨S2x768x256, .f32⟩
  | .hbm, ⟨9, _⟩ => ⟨S_, .f32⟩
  | .hbm, ⟨10, _⟩ => ⟨S2x768x256, .f32⟩
  | .hbm, ⟨11, _⟩ => ⟨S2x768x256, .f32⟩
  | .hbm, ⟨12, _⟩ => ⟨S2x768x256, .f32⟩
  | .hbm, ⟨13, _⟩ => ⟨S_, .f32⟩
  | .hbm, ⟨14, _⟩ => ⟨S2x768x256, .f32⟩
  | .hbm, ⟨15, _⟩ => ⟨S2x768x256, .f32⟩
  | .hbm, ⟨16, _⟩ => ⟨S2x768x256, .f32⟩
  | .hbm, ⟨17, _⟩ => ⟨S_, .f32⟩
  | .hbm, ⟨18, _⟩ => ⟨S2x768x256, .f32⟩
  | .hbm, ⟨19, _⟩ => ⟨S2x768x256, .f32⟩
  | .hbm, ⟨20, _⟩ => ⟨S2x768x256, .f32⟩
  | .hbm, ⟨21, _⟩ => ⟨S_, .f32⟩
  | .hbm, ⟨22, _⟩ => ⟨S2x768x256, .f32⟩
  | .hbm, ⟨23, _⟩ => ⟨S2x768x256, .f32⟩
  | .hbm, ⟨24, _⟩ => ⟨S_, .f32⟩
  | .hbm, ⟨25, _⟩ => ⟨S2x768x256, .f32⟩
  | .hbm, ⟨26, _⟩ => ⟨S2x768x256, .f32⟩
  | .hbm, ⟨27, _⟩ => ⟨S2x768x256, .f32⟩
  | .hbm, ⟨28, _⟩ => ⟨S_, .f32⟩
  | .hbm, ⟨29, _⟩ => ⟨S2x768x256, .f32⟩
  | .hbm, ⟨30, _⟩ => ⟨S2x768x256, .f32⟩
  | .hbm, ⟨31, _⟩ => ⟨S2x768x256, .f32⟩
  | .hbm, ⟨32, _⟩ => ⟨S_, .f32⟩
  | .hbm, ⟨33, _⟩ => ⟨S2x768x256, .f32⟩
  | .hbm, ⟨34, _⟩ => ⟨S2x768x256, .f32⟩
  | .hbm, ⟨35, _⟩ => ⟨S2x768x256, .f32⟩
  | .hbm, ⟨36, _⟩ => ⟨S_, .f32⟩
  | .hbm, ⟨37, _⟩ => ⟨S2x768x256, .f32⟩
  | .hbm, ⟨38, _⟩ => ⟨S2x768x256, .f32⟩
  | .hbm, ⟨39, _⟩ => ⟨S1536x256, .f32⟩
  | .hbm, ⟨40, _⟩ => ⟨S1536x256, .f32⟩
  | .hbm, ⟨41, _⟩ => ⟨S1536x256, .f32⟩
  | .hbm, ⟨42, _⟩ => ⟨S1536x256, .f32⟩
  | _, _ => ⟨S2x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel19.lean ====
abbrev S2x256x1024 : Shape := ⟨3, ![2, 256, 1024]⟩
abbrev S512x1024 : Shape := ⟨2, ![512, 1024]⟩

abbrev nBuf : Space → Nat
  | .hbm => 14
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference19Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Dh0.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

/-! # The input gradient of the product into the S5 columns and the layer's norm -/

@[expose] public section

set_option maxRecDepth 16384

noncomputable section

namespace Cert.Dh0

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The last sums of a tile, in the reference's order. -/
theorem dx_tile (x : Vec Ideal S1024x1024 .f32) (p r d : FVec Ideal S1024x1024 .f32) (j : S1024x1024.Idx) :
    k0_pay1 (F := Ideal) x p r d j = d j + (r j + p j * x j) := by
  pointwise [k0_pay1]
  exact add_comm _ _

/-- The sum of the two halves of a tile, with the reference's order of terms. -/
theorem dx_sum (a b c d : EReal) : d + (a + b + c) = d + a + b + c := by
  simp only [add_assoc]

/-- One tile's gradient at an entry, over the tile's blocks. -/
theorem dx_at (a : Vec Ideal S1024x512 .bf16) (b : Vec Ideal S1024x512 .bf16) (e x : Vec Ideal S1024x1024 .f32)
    (w : Vec Ideal S1x1024 .f32) (d : Vec Ideal S1024x1024 .f32) (j : S1024x1024.Idx) :
    k0_pay1 (F := Ideal) x (k0_pay8 a b e x w) (k0_pay9 a b e x w) d j
      = d j + k0_pay7 (F := Ideal) a b e w j * k0_pay5 (F := Ideal) x (ix2 (j 0) 0) + x j * k0_pay8 (F := Ideal) a b e x w j
        + k0_pay8 (F := Ideal) a b e x w j * x j := by
  rw [dx_tile, ← dx_sum]
  pointwise [k0_pay9]

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] := (by decide +kernel : ∀ t : Fin grid0.N, _)

/-- The input's gradient, tile by tile. -/
theorem final_dx (c : Dev nD) : (dats m 0 c).arrAt 6 (cfgs 0).N
    = Cert.ReferenceIdeal.Read.val_main_v40 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  blk_simp
  rw [after0_6]
  have hv : (outsAt0 m c t.val t.isLt).1 = k0_pay1 (F := Ideal) (iblk m c 3 t)
      (k0_pay8 (iblk m c 0 t) (iblk m c 1 t) (iblk m c 2 t) (iblk m c 3 t) (iblk m c 4 t))
      (k0_pay9 (iblk m c 0 t) (iblk m c 1 t) (iblk m c 2 t) (iblk m c 3 t) (iblk m c 4 t)) (iblk m c 5 t) := by
    by_cases h : t.val % 8 = 0
    · rw [outsAt0_A m c t h (by have := lt_of_lt_of_eq t.isLt N_0; omega)]
      frame_out
    · rw [outsAt0_B m c t h (by omega)]
      frame_out
  rw [hv, dx_at]
  pointwise [k0_pay3, k0_pay4, k0_pay5, k0_pay7, k0_pay8, Cert.ReferenceIdeal.Read.val_main_v40, Cert.ReferenceIdeal.Read.val_main_v38, Cert.ReferenceIdeal.Read.val_main_v31, Cert.ReferenceIdeal.Read.val_main_v37, Cert.ReferenceIdeal.Read.val_main_v39, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_v8, Cert.ReferenceIdeal.Read.val_main_v9, Cert.ReferenceIdeal.Read.val_main_v10, Cert.ReferenceIdeal.Read.val_main_v11, Cert.ReferenceIdeal.Read.val_main_v12, Cert.ReferenceIdeal.Read.val_main_v13, Cert.ReferenceIdeal.Read.val_main_v17, Cert.ReferenceIdeal.Read.val_main_v18, Cert.ReferenceIdeal.Read.val_main_v19, Cert.ReferenceIdeal.Read.val_main_v23, Cert.ReferenceIdeal.Read.val_main_v24, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_cst, Cert.ReferenceIdeal.Read.val_main_cst_0, Cert.ReferenceIdeal.Read.val_main_cst_1, Cert.ReferenceIdeal.Read.val_main_cst_2, Cert.ReferenceIdeal.Read.val_main_cst_5, Cert.ReferenceIdeal.Read.val_main_cst_6, Cert.ReferenceIdeal.Read.val_main_cst_7]
  blk_point [iblk, V, idx t]

/-- What a tile adds to the norm weight's gradient. -/
theorem part_at (a : Vec Ideal S1024x512 .bf16) (b : Vec Ideal S1024x512 .bf16) (e x : Vec Ideal S1024x1024 .f32)
    (j : S1x1024.Idx) :
    k0_pay6 (F := Ideal) a b e x j
      = ∑ k : Fin 1024, x (ix2 k (j 1)) * k0_pay5 (F := Ideal) x (ix2 k 0) * k0_pay3 (F := Ideal) a b e (ix2 k (j 1)) := by
  pointwise [k0_pay6]

theorem step_at (p : FVec Ideal S1x1024 .f32) (acc : Vec Ideal S1x1024 .f32) (j : S1x1024.Idx) :
    k0_pay2 (F := Ideal) p acc j = acc j + p j := by
  pointwise [k0_pay2]

/-- The reference's gradient of the norm weight is the sum over all the rows. -/
theorem dw_ref (a : FVec Ideal S8192x512 .bf16) (b : FVec Ideal S1024x512 .f32) (e x : FVec Ideal S8192x1024 .f32)
    (j : S1x1024.Idx) :
    Cert.ReferenceIdeal.Read.val_main_v41 (F := Ideal) a b e x j
      = ∑ l : Fin 8192, Cert.ReferenceIdeal.Read.val_main_v20 (F := Ideal) a b e x (ix2 l (j 1)) := by
  pointwise [Cert.ReferenceIdeal.Read.val_main_v41, Cert.ReferenceIdeal.Read.val_main_v25, Cert.ReferenceIdeal.Read.val_main_v22, Cert.ReferenceIdeal.Read.val_main_v21, Cert.ReferenceIdeal.Read.val_main_cst_3, Cert.ReferenceIdeal.Read.val_main_cst_4]
  exact Fin.sum_univ_one _

/-- The norm weight's gradient, accumulated over the tiles. -/
theorem final_dw (c : Dev nD) : (dats m 0 c).arrAt 7 (cfgs 0).N
    = Cert.ReferenceIdeal.Read.val_main_v41 (F := Ideal) (m ((c : Thread nD τ).loc main_arg0))
        (m ((c : Thread nD τ).loc main_arg1)) (m ((c : Thread nD τ).loc main_arg2)) (m ((c : Thread nD τ).loc main_arg3))
         := by
  refine (dats m 0 c).arrAt_eq_of_covers 7 _ (by decide +kernel) fun t hf y => ?_
  blk_simp
  rw [after0_7, Pipeline.eq_sum_fin_of_reset_step_apply_of_flush (fun n h => (outsAt0 m c n h).2) 8 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at, part_at])
    t ((flush0_7 t).mp hf) _, zero_add, dw_ref]
  refine Fin.sum_mul_add_congr fun s k hl => ?_
  have ht := lt_of_lt_of_eq t.isLt N_0
  pointwise [k0_pay3, k0_pay4, k0_pay5, Cert.ReferenceIdeal.Read.val_main_v20, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_v11, Cert.ReferenceIdeal.Read.val_main_v12, Cert.ReferenceIdeal.Read.val_main_v17, Cert.ReferenceIdeal.Read.val_main_v18, Cert.ReferenceIdeal.Read.val_main_v19, Cert.ReferenceIdeal.Read.val_main_cst, Cert.ReferenceIdeal.Read.val_main_cst_0, Cert.ReferenceIdeal.Read.val_main_cst_1]
  blk_point [iblk, V, idx t, idx ⟨_, Pipeline.run_point_lt_of_flush t ((flush0_7 t).mp hf) s⟩]

theorem claim : Cert.algebraic_KernelIdeal_ReferenceIdeal := by
  pair_intro
  · run_from Cert.KernelIdeal.Value.run_blocks m g
  · run_from Cert.ReferenceIdeal.Value.run m' g'
    · obtain ⟨h0, h1, h2, h3, h4, h5⟩ := hagree c
      rw [Cert.ReferenceIdeal.Read.val_main_v40_eq, h0, h1, h2, h3, h4, h5]
      exact (final_dx m c).symm
    · exact (final_dw m c).symm

end Cert.Dh0

end
-- ==== Proof.ConvTile.lean ====
module

public import proofs.«01_k».proof.Proof.Gen.Kernel2Ideal.Skeleton
public import proofs.«01_k».proof.Proof.Gen.Reference2Ideal.Read
public import Idealize.ShloMosaic.Lib.Pipeline.ValueKit
public import Idealize.ShloMosaic.Lib.Pointwise

/-! # The backward convolution over one tile of rows

What the kernel computes from a tile of 512 rows, the 8 rows before it and the 8 after it is compared with the
whole convolution of the reference, entry by entry. -/

@[expose] public section

set_option maxRecDepth 16384

noncomputable section

namespace Cert.ConvTile

open Idealize.ShloMosaic Idealize.ShloMosaic.TcCoe Idealize.SL.Sem
open Cert.Kernel2Ideal Cert.Kernel2Ideal.Gen
open Cert.Reference2Ideal.Read

/-- The three pieces are the rows of the tile `i` of `X`'s convolved columns, those before and those after, as far
    as `X` has them. -/
structure Rows (X : FVec Ideal S8192x8448 .f32) (i : grid0.Coords) (p : Vec Ideal S8x1280 .f32)
    (x : Vec Ideal S512x1280 .f32) (n : Vec Ideal S8x1280 .f32) : Prop where
  prev : ∀ (k : Fin 8) (c : Fin 1280) (r : Fin 8192) (l : Fin 8448), r.val + 8 = 512 * (i 0).val + k.val →
    l.val = 4608 + c.val → p (ix2 k c) = X (ix2 r l)
  here : ∀ (k : Fin 512) (c : Fin 1280) (r : Fin 8192) (l : Fin 8448), r.val = 512 * (i 0).val + k.val →
    l.val = 4608 + c.val → x (ix2 k c) = X (ix2 r l)
  next : ∀ (k : Fin 8) (c : Fin 1280) (r : Fin 8192) (l : Fin 8448), r.val = 512 * (i 0).val + 512 + k.val →
    l.val = 4608 + c.val → n (ix2 k c) = X (ix2 r l)

/-- The two pieces are the rows of the tile `i` of `D` and the rows after it. -/
structure Acts (D : FVec Ideal S8192x1280 .f32) (i : grid0.Coords) (d : Vec Ideal S512x1280 .f32)
    (e : Vec Ideal S8x1280 .f32) : Prop where
  here : ∀ (k : Fin 512) (c : Fin 1280) (r : Fin 8192), r.val = 512 * (i 0).val + k.val → d (ix2 k c) = D (ix2 r c)
  next : ∀ (k : Fin 8) (c : Fin 1280) (r : Fin 8192), r.val = 512 * (i 0).val + 512 + k.val → e (ix2 k c) = D (ix2 r c)

theorem tile_lt (i : grid0.Coords) : (i 0).val < 16 := (i 0).isLt

/-- A choice on the tile's number. -/
theorem select_tile (i : grid0.Coords) (n : ℕ) {g : ℕ} (hn : n < 16) (hg : g = (i 0).val) {α : Type} (a b : α) :
    Scalar.select (Scalar.cmpi .eq (BitVec.ofNat 32 g) (BitVec.ofNat 32 n)) a b
      = if (i 0).val = n then a else b := by
  have h := tile_lt i
  subst hg
  have he : (BitVec.ofNat 32 (i 0).val = BitVec.ofNat 32 n) ↔ (i 0).val = n := by
    constructor
    · intro e
      have e' := congrArg BitVec.toNat e
      simp only [BitVec.toNat_ofNat] at e'
      omega
    · intro e; rw [e]
  by_cases hc : (i 0).val = n
  · rw [if_pos hc, show Scalar.cmpi .eq (BitVec.ofNat 32 (i 0).val) (BitVec.ofNat 32 n) = 1#1 from by
      simp [Scalar.cmpi, IntOp.cmpi, he.mpr hc]]
    rfl
  · rw [if_neg hc, show Scalar.cmpi .eq (BitVec.ofNat 32 (i 0).val) (BitVec.ofNat 32 n) = 0#1 from by
      have := mt he.mp hc
      show BitVec.ofBool (_ == _) = 0#1
      rw [beq_eq_false_iff_ne.mpr this]; rfl]
    rfl

/-- The derivative of `z ↦ z * s`, `s` the logistic of `z`, times a finite number, in the two orders of its terms. -/
theorem slope (d z : EReal) (h : d ≠ ⊤ ∧ d ≠ ⊥) :
    d * (Ideal.logistic z * (1 + z * (1 - Ideal.logistic z)))
      = d * Ideal.logistic z + z * d * (Ideal.logistic z * (1 - Ideal.logistic z)) := by
  obtain ⟨d, rfl⟩ : ∃ y : ℝ, d = (y : EReal) := ⟨d.toReal, (EReal.coe_toReal h.1 h.2).symm⟩
  induction z using EReal.rec with
  | bot => simp
  | top =>
    have h1 : (1 : EReal) - 1 = 0 := by rw [← EReal.coe_one, ← EReal.coe_sub]; simp
    simp [h1]
  | coe z =>
    rw [Ideal.logistic_coe]
    norm_cast
    ring

section
variable {X : FVec Ideal S8192x8448 .f32} {D : FVec Ideal S8192x1280 .f32} {W : FVec Ideal S4x1280 .f32}
  {B : FVec Ideal Cert.Reference2Ideal.S1280 .f32} {i : grid0.Coords} {p : Vec Ideal S8x1280 .f32}
  {x : Vec Ideal S512x1280 .f32} {n : Vec Ideal S8x1280 .f32} {d : Vec Ideal S512x1280 .f32} {e : Vec Ideal S8x1280 .f32}
  {b w3 w2 w1 w0 : Vec Ideal S1x1280 .f32}

/-- The rows side by side are the reference's padded columns. -/
theorem ext_at (h : Rows X i p x n) (q : Fin 528) (c : Fin 1280) (r : Fin 8195) (h5 : 5 ≤ q.val)
    (hr : r.val + 5 = 512 * (i 0).val + q.val) :
    k0_pay4 (F := Ideal) i p x n (ix2 q c) = val_main_v2 (F := Ideal) X (ix2 r c) := by
  have hi := tile_lt i
  pointwise [k0_pay4, val_main_v2, val_main_v1, val_main_v0, val_main_cst]
  by_cases h8 : q.val < 8
  · rw [dif_pos h8]
    refine (select_tile i 0 (by omega) rfl _ _).trans ?_
    by_cases h0 : (i 0).val = 0
    · rw [if_pos h0, dif_pos (show r.val < 3 by omega)]
    · rw [if_neg h0, dif_neg (show ¬r.val < 3 by omega)]
      exact h.prev ⟨q.val, h8⟩ c ⟨r.val - 3, by omega⟩ ⟨4608 + c.val, by omega⟩ (by dsimp only; omega) rfl
  · rw [dif_neg h8, dif_neg (show ¬r.val < 3 by omega)]
    by_cases h1 : q.val - 8 < 512
    · rw [dif_pos h1]
      exact h.here ⟨q.val - 8, h1⟩ c ⟨r.val - 3, by omega⟩ ⟨4608 + c.val, by omega⟩ (by dsimp only; omega) rfl
    · rw [dif_neg h1]
      exact h.next ⟨q.val - 8 - 512, by omega⟩ c ⟨r.val - 3, by omega⟩ ⟨4608 + c.val, by omega⟩ (by dsimp only; omega) rfl

/-- The weights and the bias of the convolution, row by row. -/
structure Coef (W : FVec Ideal S4x1280 .f32) (B : FVec Ideal Cert.Reference2Ideal.S1280 .f32)
    (b w3 w2 w1 w0 : Vec Ideal S1x1280 .f32) : Prop where
  bias : ∀ c : Fin 1280, b (ix2 0 c) = B (ix1 c)
  row3 : ∀ c : Fin 1280, w3 (ix2 0 c) = W (ix2 3 c)
  row2 : ∀ c : Fin 1280, w2 (ix2 0 c) = W (ix2 2 c)
  row1 : ∀ c : Fin 1280, w1 (ix2 0 c) = W (ix2 1 c)
  row0 : ∀ c : Fin 1280, w0 (ix2 0 c) = W (ix2 0 c)

theorem back0 (h : Rows X i p x n) (q : Fin 520) (c : Fin 1280) (r : Fin 8195) (hr : r.val = 512 * (i 0).val + q.val + 3) :
    k0_pay5 (F := Ideal) i p x n (ix2 q c) = val_main_v2 (F := Ideal) X (ix2 r c) := by
  pointwise [k0_pay5]
  exact ext_at h _ c r (by dsimp only; omega) (by dsimp only; omega)

theorem back1 (h : Rows X i p x n) (q : Fin 520) (c : Fin 1280) (r : Fin 8195) (hr : r.val = 512 * (i 0).val + q.val + 2) :
    k0_pay6 (F := Ideal) i p x n (ix2 q c) = val_main_v2 (F := Ideal) X (ix2 r c) := by
  pointwise [k0_pay6]
  exact ext_at h _ c r (by dsimp only; omega) (by dsimp only; omega)

theorem back2 (h : Rows X i p x n) (q : Fin 520) (c : Fin 1280) (r : Fin 8195) (hr : r.val = 512 * (i 0).val + q.val + 1) :
    k0_pay7 (F := Ideal) i p x n (ix2 q c) = val_main_v2 (F := Ideal) X (ix2 r c) := by
  pointwise [k0_pay7]
  exact ext_at h _ c r (by dsimp only; omega) (by dsimp only; omega)

theorem back3 (h : Rows X i p x n) (q : Fin 520) (c : Fin 1280) (r : Fin 8195) (hr : r.val = 512 * (i 0).val + q.val) :
    k0_pay8 (F := Ideal) i p x n (ix2 q c) = val_main_v2 (F := Ideal) X (ix2 r c) := by
  pointwise [k0_pay8]
  exact ext_at h _ c r (by dsimp only; omega) (by dsimp only; omega)

/-- The terms of the convolution in the two orders. -/
theorem taps (b s0 s1 s2 s3 w0 w1 w2 w3 : EReal) :
    b + w3 * s0 + w2 * s1 + w1 * s2 + w0 * s3 = s3 * w0 + s2 * w1 + s1 * w2 + s0 * w3 + b := by
  ac_rfl

/-- The convolution before the activation. -/
theorem conv_at (h : Rows X i p x n) (hw : Coef W B b w3 w2 w1 w0) (q : Fin 520) (c : Fin 1280) (r : Fin 8192)
    (hr : r.val = 512 * (i 0).val + q.val) :
    k0_pay9 (F := Ideal) i p x n b w3 w2 w1 w0 (ix2 q c) = val_main_v33 (F := Ideal) X W B (ix2 r c) := by
  pointwise [k0_pay9, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  rw [hw.bias, hw.row3, hw.row2, hw.row1, hw.row0, taps]
  rw [back0 h q c ⟨3 + r.val, by omega⟩ (by dsimp only; omega), back1 h q c ⟨2 + r.val, by omega⟩ (by dsimp only; omega),
    back2 h q c ⟨1 + r.val, by omega⟩ (by dsimp only; omega), back3 h q c ⟨r.val, by omega⟩ (by dsimp only; omega)]

/-- The activation's derivative in the reference. -/
theorem slope_ref (X : FVec Ideal S8192x8448 .f32) (D : FVec Ideal S8192x1280 .f32) (W : FVec Ideal S4x1280 .f32)
    (B : FVec Ideal Cert.Reference2Ideal.S1280 .f32) (j : S8192x1280.Idx) :
    val_main_v35 (F := Ideal) X D W B j
      = D j * Ideal.logistic (val_main_v33 (F := Ideal) X W B j) + val_main_v33 (F := Ideal) X W B j * D j
        * (Ideal.logistic (val_main_v33 (F := Ideal) X W B j) * (1 - Ideal.logistic (val_main_v33 (F := Ideal) X W B j))) := by
  pointwise [val_main_v35, val_main_call1_v1, val_main_call1_v2, val_main_call1_v0, val_main_v34_1, val_main_call0_v7, val_main_call0_v6, val_main_call0_cst_1, val_main_v34_2, val_main_call0_v4, val_main_call0_cst_0, val_main_call0_v3, val_main_call0_v2, val_main_call0_cst, val_main_call0_v1, val_main_call0_v0]
  rfl

/-- The gradient before the activation, over the tile's rows and those after it. -/
theorem grad_at (h : Rows X i p x n) (hw : Coef W B b w3 w2 w1 w0) (hd : Acts D i d e) (hf : ∀ j, D j ≠ ⊤ ∧ D j ≠ ⊥)
    (q : Fin 520) (c : Fin 1280) (r : Fin 8192) (hr : r.val = 512 * (i 0).val + q.val) :
    k0_pay11 (F := Ideal) (BitVec.ofNat 32 (i 0).val) (k0_pay9 i p x n b w3 w2 w1 w0)
        (k0_pay10 i p x n b w3 w2 w1 w0) d 15#32 e (ix2 q c)
      = val_main_v35 (F := Ideal) X D W B (ix2 r c) := by
  have hi := tile_lt i
  rw [slope_ref, ← slope _ _ (hf _)]
  pointwise [k0_pay11, k0_pay10]
  rw [conv_at h hw q c r hr]
  congr 1
  by_cases h1 : q.val < 512
  · rw [dif_pos h1]
    exact hd.here ⟨q.val, h1⟩ c r hr
  · rw [dif_neg h1]
    refine (select_tile i 15 (by omega) rfl _ _).trans ?_
    rw [if_neg (show ¬(i 0).val = 15 by omega)]
    exact hd.next ⟨q.val - 512, by omega⟩ c r (by dsimp only; omega)

/-- Past the last row the gradient is zero. -/
theorem grad_end (q : Fin 520) (c : Fin 1280) (hr : 8192 ≤ 512 * (i 0).val + q.val) :
    k0_pay11 (F := Ideal) (BitVec.ofNat 32 (i 0).val) (k0_pay9 i p x n b w3 w2 w1 w0)
        (k0_pay10 i p x n b w3 w2 w1 w0) d 15#32 e (ix2 q c) = 0 := by
  have hi := tile_lt i
  pointwise [k0_pay11]
  rw [dif_neg (show ¬q.val < 512 by omega)]
  refine (congrArg (· * _) ((select_tile i 15 (by omega) rfl _ _).trans (if_pos (by omega)))).trans ?_
  exact zero_mul _

/-- The input's gradient at a row of the tile. -/
theorem back_at (h : Rows X i p x n) (hw : Coef W B b w3 w2 w1 w0) (hd : Acts D i d e) (hf : ∀ j, D j ≠ ⊤ ∧ D j ≠ ⊥)
    (k : Fin 512) (c : Fin 1280) (r : Fin 8192) (hr : r.val = 512 * (i 0).val + k.val) :
    k0_pay12 (F := Ideal) (BitVec.ofNat 32 (i 0).val) (k0_pay9 i p x n b w3 w2 w1 w0)
        (k0_pay10 i p x n b w3 w2 w1 w0) d 15#32 e w3 w2 w1 w0 (ix2 k c)
      = val_main_v82 (F := Ideal) X D W B (ix2 r c) := by
  have hi := tile_lt i
  pointwise [k0_pay12, val_main_v82, val_main_v80, val_main_v79, val_main_v69, val_main_v68, val_main_v58, val_main_v57, val_main_v47, val_main_cst_18, val_main_cst_14, val_main_cst_10, val_main_cst_6, val_main_v74, val_main_v63, val_main_v52, val_main_v43, val_main_v73, val_main_v62, val_main_v51, val_main_v42, val_main_v27, val_main_v26, val_main_v25, val_main_v20, val_main_v19, val_main_v18, val_main_v13, val_main_v12, val_main_v11, val_main_v7, val_main_v6, val_main_v5]
  rw [hw.row3, hw.row2, hw.row1, hw.row0]
  have hg : ∀ (q : Fin 520) (s : ℕ), s = 512 * (i 0).val + q.val →
      k0_pay11 (F := Ideal) (BitVec.ofNat 32 (i 0).val) (k0_pay9 i p x n b w3 w2 w1 w0)
        (k0_pay10 i p x n b w3 w2 w1 w0) d 15#32 e (ix2 q c)
      = if h : s < 8192 then val_main_v35 (F := Ideal) X D W B (ix2 ⟨s, h⟩ c) else 0 := by
    intro q s hs
    split_ifs with h1
    · exact grad_at h hw hd hf q c _ hs
    · exact grad_end q c (by omega)
  generalize k0_pay11 (F := Ideal) _ _ _ _ _ _ = G at hg ⊢
  generalize val_main_v35 (F := Ideal) X D W B = V at hg ⊢
  have h0 := hg ⟨k.val, by omega⟩ r.val (by dsimp only; omega)
  have h1 := hg ⟨(k.val + 520 - 519) % 520, by omega⟩ (r.val + 1) (by dsimp only; omega)
  have h2 := hg ⟨(k.val + 520 - 518) % 520, by omega⟩ (r.val + 2) (by dsimp only; omega)
  have h3 := hg ⟨(k.val + 520 - 517) % 520, by omega⟩ (3 + r.val) (by dsimp only; omega)
  rw [h0, h1, h2, h3, dif_pos r.isLt]
  congr 1
  · congr 1
    · congr 1
      · exact mul_comm _ _
      · split_ifs <;> first | omega | (simp only [mul_zero]) | skip
        rw [mul_comm]
        exact congrArg (fun s => V (ix2 s c) * W (ix2 2 c)) (Fin.ext (by dsimp only; omega))
    · split_ifs <;> first | omega | (simp only [mul_zero]) | skip
      rw [mul_comm]
      exact congrArg (fun s => V (ix2 s c) * W (ix2 1 c)) (Fin.ext (by dsimp only; omega))
  · split_ifs <;> first | omega | (simp only [mul_zero]) | skip
    exact mul_comm _ _

/-- What a tile adds to a row of the weights' gradient. -/
theorem row_at (z g : FVec Ideal S520x1280 .f32) (acc : Vec Ideal S1x1280 .f32) (j : S1x1280.Idx) :
    k0_pay21 (F := Ideal) z g acc j
      = acc j + ∑ k : Fin 512, g (ix2 ⟨k.val, by omega⟩ (j 1)) * z (ix2 ⟨k.val, by omega⟩ (j 1)) := by
  pointwise [k0_pay21, k0_pay15]

theorem row_at1 (z g : FVec Ideal S520x1280 .f32) (acc : Vec Ideal S1x1280 .f32) (j : S1x1280.Idx) :
    k0_pay22 (F := Ideal) z g acc j
      = acc j + ∑ k : Fin 512, g (ix2 ⟨k.val, by omega⟩ (j 1)) * z (ix2 ⟨k.val, by omega⟩ (j 1)) := by
  pointwise [k0_pay22, k0_pay15]

theorem row_at2 (z g : FVec Ideal S520x1280 .f32) (acc : Vec Ideal S1x1280 .f32) (j : S1x1280.Idx) :
    k0_pay1 (F := Ideal) (k0_pay16 z g) acc j
      = acc j + ∑ k : Fin 512, g (ix2 ⟨k.val, by omega⟩ (j 1)) * z (ix2 ⟨k.val, by omega⟩ (j 1)) := by
  pointwise [k0_pay1, k0_pay16, k0_pay15]

theorem row_at3 (z g : FVec Ideal S520x1280 .f32) (acc : Vec Ideal S1x1280 .f32) (j : S1x1280.Idx) :
    k0_pay2 (F := Ideal) (k0_pay17 z g) acc j
      = acc j + ∑ k : Fin 512, g (ix2 ⟨k.val, by omega⟩ (j 1)) * z (ix2 ⟨k.val, by omega⟩ (j 1)) := by
  pointwise [k0_pay2, k0_pay17, k0_pay15]

/-- What a tile adds to the bias's gradient. -/
theorem bias_at (g : FVec Ideal S520x1280 .f32) (acc : Vec Ideal S1x1280 .f32) (j : S1x1280.Idx) :
    k0_pay3 (F := Ideal) (k0_pay18 g) acc j = acc j + ∑ k : Fin 512, g (ix2 ⟨k.val, by omega⟩ (j 1)) := by
  pointwise [k0_pay3, k0_pay18, k0_pay15]

/-- The reference's gradient of the weights: row `j 0` pairs the gradient with the input `3 - j 0` rows before. -/
theorem weight_ref (j : S4x1280.Idx) : val_main_v78 (F := Ideal) X D W B j
    = ∑ r : Fin 8192, val_main_v35 (F := Ideal) X D W B (ix2 r (j 1))
        * val_main_v2 (F := Ideal) X (ix2 ⟨r.val + (j 0).val, by have := (j 0).isLt; have : (j 0).val < 4 := this; omega⟩ (j 1)) := by
  pointwise [val_main_v78, val_main_v67, val_main_v56, val_main_v46, val_main_v45, val_main_v44, val_main_v41, val_main_v40, val_main_v39, val_main_v24, val_main_cst_3, val_main_cst_4, val_main_cst_5, val_main_v55, val_main_v54, val_main_v53, val_main_v50, val_main_v49, val_main_v48, val_main_v17, val_main_cst_7, val_main_cst_8, val_main_cst_9, val_main_v66, val_main_v65, val_main_v64, val_main_v61, val_main_v60, val_main_v59, val_main_v10, val_main_cst_11, val_main_cst_12, val_main_cst_13, val_main_v77, val_main_v76, val_main_v75, val_main_v72, val_main_v71, val_main_v70, val_main_v4, val_main_cst_15, val_main_cst_16, val_main_cst_17]
  have h4 : (j 0).val < 4 := (j 0).isLt
  have key : ∀ (s : ℕ) (hs : s < 4), s = (j 0).val →
      (∑ x : Fin 1, ∑ r : Fin 8192, val_main_v2 (F := Ideal) X (ix2 ⟨s + r.val, by omega⟩ (j 1)) * val_main_v35 (F := Ideal) X D W B (ix2 r (j 1)))
        = ∑ r : Fin 8192, val_main_v35 (F := Ideal) X D W B (ix2 r (j 1))
        * val_main_v2 (F := Ideal) X (ix2 ⟨r.val + (j 0).val, by omega⟩ (j 1)) := by
    rintro s hs rfl
    rw [Fin.sum_univ_one]
    refine Finset.sum_congr rfl fun r _ => ?_
    rw [mul_comm]
    exact congrArg (fun q => val_main_v35 (F := Ideal) X D W B (ix2 r (j 1)) * val_main_v2 (F := Ideal) X (ix2 q (j 1))) (Fin.ext (Nat.add_comm _ _))
  split_ifs <;> first | omega | simp only [zero_add, add_zero]
  · exact key 3 (by omega) (by omega)
  · exact key 2 (by omega) (by omega)
  · exact key 1 (by omega) (by omega)
  · refine Eq.trans ?_ (key 0 (by omega) (by omega))
    simp only [Nat.zero_add]

/-- The reference's gradient of the bias. -/
theorem bias_ref (j : S1x1280.Idx) : val_main_v89 (F := Ideal) X D W B j
    = ∑ r : Fin 8192, val_main_v35 (F := Ideal) X D W B (ix2 r (j 1)) := by
  pointwise [val_main_v89, val_main_v38, val_main_v37, val_main_v36, val_main_cst_1, val_main_cst_2]
  exact Fin.sum_univ_one _

end

end Cert.ConvTile

end
-- ==== Proof.Conv.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.ConvTile
public import Idealize.ShloMosaic.Lib.Pipeline.ValueKit
public import Idealize.ShloMosaic.Lib.Pipeline.ReadBack
public import Idealize.ShloMosaic.Lib.Pointwise
public import Idealize.ShloMosaic.Lib.ReduceAll
public import Idealize.ShloMosaic.Lib.KernelVsHost

/-! # The backward convolution: its tiles put together -/

@[expose] public section

set_option maxRecDepth 16384

noncomputable section

namespace Cert.Conv

open Idealize.ShloMosaic Idealize.ShloMosaic.TcCoe Idealize.SL.Sem
open Idealize.ShloMosaic.Pipeline (Dat)
open Cert.Kernel2Ideal Cert.Kernel2Ideal.Gen Cert.ConvTile
open Cert.Reference2Ideal.Read

variable (m : (ℓ : Loc nD τ sig) → Buf (Elt Ideal) ℓ)

theorem idx : ∀ t : Fin cfg0.N, win0_0.index t = ![t.val, 3] ∧ win0_1.index t = ![64 * t.val - 1, 3]
    ∧ win0_2.index t = ![min (64 * (t.val + 1)) 1023, 3] ∧ win0_3.index t = ![t.val, 0]
    ∧ win0_4.index t = ![min (64 * (t.val + 1)) 1023, 0] ∧ win0_5.index t = ![t.val, 0] ∧ win0_6.index t = ![0, 0]
    ∧ win0_7.index t = ![0, 0] ∧ win0_8.index t = ![t.val, 3] ∧ win0_9.index t = ![0, 0]
    ∧ win0_10.index t = ![0, 0] := (by decide +kernel : ∀ t : Fin grid0.N, _)

theorem coord : ∀ t : Fin cfg0.N, (grid0.coords t 0).val = t.val := (by decide +kernel : ∀ t : Fin grid0.N, _)

/-- The rows the tile `t` reads, over the array's columns. -/
theorem rows_blk (c : Dev nD) (t : Fin cfg0.N) : Rows (m ((c : Thread nD τ).loc main_arg0)) (grid0.coords t)
    (View.ld (X0_1 (F := Ideal) m c t) (Rect.unit ![0, 0] ![8, 1280] inb_S8x1536_S8x1280_0_0))
    (View.ld (X0_0 (F := Ideal) m c t) (Rect.unit ![0, 0] ![512, 1280] inb_S512x1536_S512x1280_0_0))
    (View.ld (X0_2 (F := Ideal) m c t) (Rect.unit ![0, 0] ![8, 1280] inb_S8x1536_S8x1280_0_0)) := by
  have ht := lt_of_lt_of_eq t.isLt N_0
  have hc := coord t
  constructor
  · intro k c' r l hr hl
    rw [hc] at hr
    pointwise
    unfold X0_1 Pipeline.Window.fill
    rw [dif_pos (moved0_1 t _)]
    blk_point [iblk, V, idx t]
  · intro k c' r l hr hl
    rw [hc] at hr
    pointwise
    unfold X0_0 Pipeline.Window.fill
    rw [dif_pos (moved0_0 t _)]
    blk_point [iblk, V, idx t]
  · intro k c' r l hr hl
    rw [hc] at hr
    pointwise
    unfold X0_2 Pipeline.Window.fill
    rw [dif_pos (moved0_2 t _)]
    blk_point [iblk, V, idx t]

theorem acts_blk (c : Dev nD) (t : Fin cfg0.N) : Acts (m ((c : Thread nD τ).loc main_arg1)) (grid0.coords t)
    (iblk (F := Ideal) m c 3 t) (iblk (F := Ideal) m c 4 t) := by
  have ht := lt_of_lt_of_eq t.isLt N_0
  have hc := coord t
  constructor
  · intro k c' r hr
    rw [hc] at hr
    blk_point [iblk, V, idx t]
  · intro k c' r hr
    rw [hc] at hr
    blk_point [iblk, V, idx t]

theorem coef_blk (c : Dev nD) (t : Fin cfg0.N) : Coef (m ((c : Thread nD τ).loc main_arg3)) (m ((c : Thread nD τ).loc main_arg4))
    (iblk (F := Ideal) m c 7 t)
    (View.ld (iblk (F := Ideal) m c 6 t) (Rect.unit ![3, 0] ![1, 1280] inb_S4x1280_S1x1280_3_0))
    (View.ld (iblk (F := Ideal) m c 6 t) (Rect.unit ![2, 0] ![1, 1280] inb_S4x1280_S1x1280_2_0))
    (View.ld (iblk (F := Ideal) m c 6 t) (Rect.unit ![1, 0] ![1, 1280] inb_S4x1280_S1x1280_1_0))
    (View.ld (iblk (F := Ideal) m c 6 t) (Rect.unit ![0, 0] ![1, 1280] inb_S4x1280_S1x1280_0_0)) := by
  constructor <;> intro c' <;> (try pointwise) <;> blk_point [iblk, V, idx t]

/-! ## the sums -/

/-- The reference's gradient before the activation. -/
def slopes (c : Dev nD) : FVec Ideal S8192x1280 .f32 :=
  val_main_v35 (F := Ideal) (m ((c : Thread nD τ).loc main_arg0)) (m ((c : Thread nD τ).loc main_arg1))
    (m ((c : Thread nD τ).loc main_arg3)) (m ((c : Thread nD τ).loc main_arg4))

/-- The incoming gradient has no infinite entry. -/
def Finite (c : Dev nD) : Prop :=
  ∀ j : S8192x1280.Idx, (m ((c : Thread nD τ).loc main_arg1) : FVec Ideal S8192x1280 .f32) j ≠ (⊤ : EReal)
    ∧ (m ((c : Thread nD τ).loc main_arg1) : FVec Ideal S8192x1280 .f32) j ≠ (⊥ : EReal)

/-- The rows of the gradient the tile `t` sums. -/
def biasPart (c : Dev nD) (t : Fin cfg0.N) (j : S1x1280.Idx) : EReal :=
  ∑ k : Fin 512, slopes m c (ix2 ⟨512 * t.val + k.val, by have := lt_of_lt_of_eq t.isLt N_0; omega⟩ (j 1))

theorem bias_tile (c : Dev nD) (t : Fin cfg0.N) (g : FVec Ideal S520x1280 .f32)
    (hg : ∀ (k : Fin 520) (c' : Fin 1280) (r : Fin 8192), r.val = 512 * (grid0.coords t 0).val + k.val → g (ix2 k c') = slopes m c (ix2 r c'))
    (acc : Vec Ideal S1x1280 .f32) (j : S1x1280.Idx) :
    k0_pay3 (F := Ideal) (k0_pay18 g) acc j = acc j + biasPart m c t j := by
  rw [bias_at]
  exact congrArg (acc j + ·) (Finset.sum_congr rfl fun k _ => hg _ _ _ (by rw [coord t]))

theorem final_db (c : Dev nD) (hf : Finite m c) :
    (dats m 0 c).arrAt 10 (cfgs 0).N = val_main_v89 (F := Ideal) (m ((c : Thread nD τ).loc main_arg0))
      (m ((c : Thread nD τ).loc main_arg1)) (m ((c : Thread nD τ).loc main_arg3)) (m ((c : Thread nD τ).loc main_arg4)) := by
  refine (dats m 0 c).arrAt_eq_of_covers 10 _ (by decide +kernel) fun t h y => ?_
  blk_simp
  rw [after0_10, Pipeline.eq_sum_fin_of_reset_step_apply_of_flush (fun n h => (outsAt0 m c n h).2.2) 16 (fun _ => 0) (biasPart m c)
    (fun t h j => by
      rw [outsAt0_A m c t (by have := lt_of_lt_of_eq t.isLt N_0; omega)]; frame_out
      exact (bias_tile m c t _ (grad_at (rows_blk m c t) (coef_blk m c t) (acts_blk m c t) hf) _ j).trans (congrArg (· + biasPart m c t j) (by pointwise [k0_pay20])))
    (fun t h j => by rw [outsAt0_B m c t (by omega)]; frame_out
                     exact bias_tile m c t _ (grad_at (rows_blk m c t) (coef_blk m c t) (acts_blk m c t) hf) _ j)
    t ((flush0_10 t).mp h) _, zero_add, bias_ref]
  refine Fin.sum_mul_add_congr fun s k hl => ?_
  have ht := lt_of_lt_of_eq t.isLt N_0
  have := (flush0_10 t).mp h
  unfold slopes
  blk_point [idx t]

/-! ## the weights' rows -/

/-- What the tile `t` adds to the weights' gradient. -/
def rowPart (c : Dev nD) (t : Fin cfg0.N) (j : S4x1280.Idx) : EReal :=
  ∑ k : Fin 512, slopes m c (ix2 ⟨512 * t.val + k.val, by have := lt_of_lt_of_eq t.isLt N_0; omega⟩ (j 1))
    * val_main_v2 (F := Ideal) (m ((c : Thread nD τ).loc main_arg0))
        (ix2 ⟨512 * t.val + k.val + (j 0).val, by have := lt_of_lt_of_eq t.isLt N_0; have : (j 0).val < 4 := (j 0).isLt; omega⟩ (j 1))

theorem row_part (c : Dev nD) (t : Fin cfg0.N) (z g : FVec Ideal S520x1280 .f32) (j : S4x1280.Idx) (j' : Fin 1280) (hj : j 1 = j')
    (hg : ∀ (k : Fin 520) (c' : Fin 1280) (r : Fin 8192), r.val = 512 * (grid0.coords t 0).val + k.val → g (ix2 k c') = slopes m c (ix2 r c'))
    (hz : ∀ (k : Fin 520) (c' : Fin 1280) (r : Fin 8195), r.val = 512 * (grid0.coords t 0).val + k.val + (j 0).val →
      z (ix2 k c') = val_main_v2 (F := Ideal) (m ((c : Thread nD τ).loc main_arg0)) (ix2 r c')) :
    ∑ k : Fin 512, g (ix2 ⟨k.val, by omega⟩ j') * z (ix2 ⟨k.val, by omega⟩ j') = rowPart m c t j := by
  subst hj
  exact Finset.sum_congr rfl fun k _ => congrArg₂ (· * ·) (hg _ _ _ (by rw [coord t])) (hz _ _ _ (by rw [coord t]))

theorem row_row {s : ℕ} (inb : ∀ a, (![s, 0] : Fin 2 → ℕ) a + (![1, 1280] : Fin 2 → ℕ) a ≤ S4x1280.size a) (x : S1x1280.Idx) :
    ((Rect.unit (s := S4x1280) ![s, 0] ![1, 1280] inb).emb x 0).val = s := by
  have hx : (x 0).val < 1 := (x 0).isLt
  rw [Rect.emb_apply]
  show s + 1 * (x 0).val = s
  omega

theorem row_col {s : ℕ} (inb : ∀ a, (![s, 0] : Fin 2 → ℕ) a + (![1, 1280] : Fin 2 → ℕ) a ≤ S4x1280.size a) (x : S1x1280.Idx) :
    (Rect.unit (s := S4x1280) ![s, 0] ![1, 1280] inb).emb x 1 = x 1 :=
  Fin.ext (by
    rw [Rect.emb_apply]
    show 0 + 1 * (x 1).val = (x 1).val
    omega)

theorem rows_cover (w3 w2 w1 w0 : Vec Ideal S1x1280 .f32) (y : S4x1280.Idx) :
    ∃ p ∈ ([⟨Rect.unit ![3, 0] ![1, 1280] inb_S4x1280_S1x1280_3_0, w3⟩, ⟨Rect.unit ![2, 0] ![1, 1280] inb_S4x1280_S1x1280_2_0, w2⟩,
      ⟨Rect.unit ![1, 0] ![1, 1280] inb_S4x1280_S1x1280_1_0, w1⟩, ⟨Rect.unit ![0, 0] ![1, 1280] inb_S4x1280_S1x1280_0_0, w0⟩]
        : List (View.Piece (Elt Ideal) S4x1280 .f32)), y ∈ p.1.set :=
  View.cover_of_tiledBy _ ![1, 1280] (by sl_kernel_rfl) y

theorem rows_fill (w3 w2 w1 w0 : Vec Ideal S1x1280 .f32) (f G : Vec Ideal S4x1280 .f32)
    (h : View.PiecesOf (Val := Elt Ideal) (s := S4x1280) (e := .f32) G
      [⟨Rect.unit ![3, 0] ![1, 1280] inb_S4x1280_S1x1280_3_0, w3⟩, ⟨Rect.unit ![2, 0] ![1, 1280] inb_S4x1280_S1x1280_2_0, w2⟩,
        ⟨Rect.unit ![1, 0] ![1, 1280] inb_S4x1280_S1x1280_1_0, w1⟩, ⟨Rect.unit ![0, 0] ![1, 1280] inb_S4x1280_S1x1280_0_0, w0⟩])
    (y : S4x1280.Idx) :
    View.canon (Val := Elt Ideal) (s := S4x1280) (e := .f32)
      [⟨Rect.unit ![3, 0] ![1, 1280] inb_S4x1280_S1x1280_3_0, w3⟩, ⟨Rect.unit ![2, 0] ![1, 1280] inb_S4x1280_S1x1280_2_0, w2⟩,
        ⟨Rect.unit ![1, 0] ![1, 1280] inb_S4x1280_S1x1280_1_0, w1⟩, ⟨Rect.unit ![0, 0] ![1, 1280] inb_S4x1280_S1x1280_0_0, w0⟩,
        ⟨Rect.unit ![0, 0] ![4, 1280] inb_S4x1280_S4x1280_0_0, f⟩] y = G y :=
  View.canon_append_of_piecesOf G [⟨Rect.unit ![0, 0] ![4, 1280] inb_S4x1280_S4x1280_0_0, f⟩] _ h y (rows_cover w3 w2 w1 w0 y)

theorem zero_rows (j : S4x1280.Idx) : k0_pay19 (F := Ideal) j = 0 := by pointwise [k0_pay19]

theorem rows_tile (c : Dev nD) (t : Fin cfg0.N) {z3 z2 z1 z0 g : FVec Ideal S520x1280 .f32} (acc : Vec Ideal S4x1280 .f32)
    (hg : ∀ (k : Fin 520) (c' : Fin 1280) (r : Fin 8192), r.val = 512 * (grid0.coords t 0).val + k.val → g (ix2 k c') = slopes m c (ix2 r c'))
    (h3 : ∀ (k : Fin 520) (c' : Fin 1280) (r : Fin 8195), r.val = 512 * (grid0.coords t 0).val + k.val + 3 →
      z3 (ix2 k c') = val_main_v2 (F := Ideal) (m ((c : Thread nD τ).loc main_arg0)) (ix2 r c'))
    (h2 : ∀ (k : Fin 520) (c' : Fin 1280) (r : Fin 8195), r.val = 512 * (grid0.coords t 0).val + k.val + 2 →
      z2 (ix2 k c') = val_main_v2 (F := Ideal) (m ((c : Thread nD τ).loc main_arg0)) (ix2 r c'))
    (h1 : ∀ (k : Fin 520) (c' : Fin 1280) (r : Fin 8195), r.val = 512 * (grid0.coords t 0).val + k.val + 1 →
      z1 (ix2 k c') = val_main_v2 (F := Ideal) (m ((c : Thread nD τ).loc main_arg0)) (ix2 r c'))
    (h0 : ∀ (k : Fin 520) (c' : Fin 1280) (r : Fin 8195), r.val = 512 * (grid0.coords t 0).val + k.val →
      z0 (ix2 k c') = val_main_v2 (F := Ideal) (m ((c : Thread nD τ).loc main_arg0)) (ix2 r c')) :
    View.PiecesOf (Val := Elt Ideal) (s := S4x1280) (e := .f32) (fun j => acc j + rowPart m c t j)
      [⟨Rect.unit ![3, 0] ![1, 1280] inb_S4x1280_S1x1280_3_0,
          k0_pay2 (k0_pay17 z3 g) (View.ld acc (Rect.unit ![3, 0] ![1, 1280] inb_S4x1280_S1x1280_3_0))⟩,
        ⟨Rect.unit ![2, 0] ![1, 1280] inb_S4x1280_S1x1280_2_0,
          k0_pay1 (k0_pay16 z2 g) (View.ld acc (Rect.unit ![2, 0] ![1, 1280] inb_S4x1280_S1x1280_2_0))⟩,
        ⟨Rect.unit ![1, 0] ![1, 1280] inb_S4x1280_S1x1280_1_0,
          k0_pay22 z1 g (View.ld acc (Rect.unit ![1, 0] ![1, 1280] inb_S4x1280_S1x1280_1_0))⟩,
        ⟨Rect.unit ![0, 0] ![1, 1280] inb_S4x1280_S1x1280_0_0,
          k0_pay21 z0 g (View.ld acc (Rect.unit ![0, 0] ![1, 1280] inb_S4x1280_S1x1280_0_0))⟩] := by
  refine ⟨fun (x : S1x1280.Idx) => ?_, fun (x : S1x1280.Idx) => ?_, fun (x : S1x1280.Idx) => ?_, fun (x : S1x1280.Idx) => ?_, trivial⟩
  · exact (row_at3 _ _ _ x).trans (congrArg₂ (· + ·) rfl (row_part m c t z3 g _ _ (row_col inb_S4x1280_S1x1280_3_0 x) hg
      fun k c' r hr => h3 k c' r (hr.trans (congrArg (_ + ·) (row_row inb_S4x1280_S1x1280_3_0 x)))))
  · exact (row_at2 _ _ _ x).trans (congrArg₂ (· + ·) rfl (row_part m c t z2 g _ _ (row_col inb_S4x1280_S1x1280_2_0 x) hg
      fun k c' r hr => h2 k c' r (hr.trans (congrArg (_ + ·) (row_row inb_S4x1280_S1x1280_2_0 x)))))
  · exact (row_at1 _ _ _ x).trans (congrArg₂ (· + ·) rfl (row_part m c t z1 g _ _ (row_col inb_S4x1280_S1x1280_1_0 x) hg
      fun k c' r hr => h1 k c' r (hr.trans (congrArg (_ + ·) (row_row inb_S4x1280_S1x1280_1_0 x)))))
  · exact (row_at _ _ _ x).trans (congrArg₂ (· + ·) rfl (row_part m c t z0 g _ _ (row_col inb_S4x1280_S1x1280_0_0 x) hg
      fun k c' r hr => h0 k c' r (hr.trans (congrArg (_ + ·) (row_row inb_S4x1280_S1x1280_0_0 x)))))

theorem row_first (c : Dev nD) (hf : Finite m c) (t : Fin cfg0.N) (h : t.val % 16 = 0) (j : S4x1280.Idx) :
    (outsAt0 m c t.val t.isLt).2.1 j = 0 + rowPart m c t j := by
  rw [outsAt0_A m c t (by have := lt_of_lt_of_eq t.isLt N_0; omega)]
  frame_out
  have hr := rows_tile m c t (k0_pay19 (F := Ideal)) (grad_at (rows_blk m c t) (coef_blk m c t) (acts_blk m c t) hf)
    (back0 (rows_blk m c t)) (back1 (rows_blk m c t)) (back2 (rows_blk m c t)) (back3 (rows_blk m c t))
  generalize k0_pay11 (F := Ideal) _ _ _ _ _ _ = G at hr ⊢
  generalize k0_pay5 (F := Ideal) _ _ _ _ = z3 at hr ⊢
  generalize k0_pay6 (F := Ideal) _ _ _ _ = z2 at hr ⊢
  generalize k0_pay7 (F := Ideal) _ _ _ _ = z1 at hr ⊢
  generalize k0_pay8 (F := Ideal) _ _ _ _ = z0 at hr ⊢
  simp (disch := first | rfl | decide) only [↓View.readCov_skip, ↓View.readCov_fill]
  rw [← zero_rows j]
  exact rows_fill _ _ _ _ _ _ hr j

theorem row_next (c : Dev nD) (hf : Finite m c) (t : Fin cfg0.N) (h : ¬t.val % 16 = 0) (j : S4x1280.Idx) :
    (outsAt0 m c t.val t.isLt).2.1 j = (outsAt0 m c (t.val - 1) (lt_of_le_of_lt (Nat.sub_le _ _) t.isLt)).2.1 j + rowPart m c t j := by
  rw [outsAt0_B m c t (by omega)]
  frame_out
  have hr := rows_tile m c t (outsAt0 m c (t.val - 1) (lt_of_le_of_lt (Nat.sub_le _ _) t.isLt)).2.1 (grad_at (rows_blk m c t) (coef_blk m c t) (acts_blk m c t) hf)
    (back0 (rows_blk m c t)) (back1 (rows_blk m c t)) (back2 (rows_blk m c t)) (back3 (rows_blk m c t))
  exact View.canon_append_of_piecesOf _ [] _ hr j (rows_cover _ _ _ _ j)

theorem final_dw (c : Dev nD) (hf : Finite m c) :
    (dats m 0 c).arrAt 9 (cfgs 0).N = val_main_v78 (F := Ideal) (m ((c : Thread nD τ).loc main_arg0))
      (m ((c : Thread nD τ).loc main_arg1)) (m ((c : Thread nD τ).loc main_arg3)) (m ((c : Thread nD τ).loc main_arg4)) := by
  refine (dats m 0 c).arrAt_eq_of_covers 9 _ (by decide +kernel) fun t h y => ?_
  blk_simp
  rw [after0_9, Pipeline.eq_sum_fin_of_reset_step_apply_of_flush (fun n h => (outsAt0 m c n h).2.1) 16 (fun _ => 0) (rowPart m c)
    (fun t h j => row_first m c hf t h j) (fun t h j => row_next m c hf t h j) t ((flush0_9 t).mp h) _, zero_add, weight_ref]
  refine Fin.sum_mul_add_congr fun s k hl => ?_
  have ht := lt_of_lt_of_eq t.isLt N_0
  have := (flush0_9 t).mp h
  unfold slopes
  blk_point [idx t]

/-! ## The block's columns -/

theorem block_cover (w2 w1 : Vec Ideal S512x128 .bf16) (w0 : Vec Ideal S512x1280 .bf16) (y : S512x1536.Idx) :
    ∃ p ∈ ([⟨Rect.unit ![0, 1408] ![512, 128] inb_S512x1536_S512x128_0_1408, w2⟩,
        ⟨Rect.unit ![0, 1280] ![512, 128] inb_S512x1536_S512x128_0_1280, w1⟩,
        ⟨Rect.unit ![0, 0] ![512, 1280] inb_S512x1536_S512x1280_0_0, w0⟩] : List (View.Piece (Elt Ideal) S512x1536 .bf16)), y ∈ p.1.set :=
  View.cover_of_tiledBy _ ![512, 128] (by sl_kernel_rfl) y

theorem ix2_self {a b : ℕ} (x : (⟨2, ![a, b]⟩ : Shape).Idx) : x = ix2 (x 0) (x 1) := by
  funext k
  match k with
  | 0 => rfl
  | 1 => rfl

theorem block_at (X : FVec Ideal S8192x8448 .f32) (D : FVec Ideal S8192x1280 .f32)
    (T : FVec Ideal S8192x128 .f32) (W : FVec Ideal S4x1280 .f32) (B : FVec Ideal S1280 .f32) (G : FVec Ideal S512x1280 .bf16) (s : FVec Ideal S512x128 .f32) (o : ℕ)
    (hG : ∀ (k : Fin 512) (c' : Fin 1280) (r : Fin 8192), r.val = o + k.val → G (ix2 k c') = val_main_v82 (F := Ideal) X D W B (ix2 r c'))
    (hs : ∀ (k : Fin 512) (c' : Fin 128) (r : Fin 8192), r.val = o + k.val → s (ix2 k c') = T (ix2 r c'))
    (y : S512x1536.Idx) (i : Cert.Reference2Ideal.S8192x1536.Idx) (hi0 : (i 0).val = o + (y 0).val) (hi1 : (i 1).val = (y 1).val) :
    View.canon (Val := Elt Ideal) (s := S512x1536) (e := .bf16)
      [⟨Rect.unit ![0, 1408] ![512, 128] inb_S512x1536_S512x128_0_1408, k0_pay14 (F := Ideal)⟩,
        ⟨Rect.unit ![0, 1280] ![512, 128] inb_S512x1536_S512x128_0_1280, k0_pay13 (F := Ideal) s⟩,
        ⟨Rect.unit ![0, 0] ![512, 1280] inb_S512x1536_S512x1280_0_0, G⟩] y
      = val_main_v84 (F := Ideal) X D T W B i := by
  canon_tiles x h using block_cover _ _ _ y
  · pointwise [k0_pay14, val_main_v84, val_main_v83]
    rw [dif_neg (by omega), dif_neg (by omega)]
    pointwise [val_main_cst_19]
  · pointwise [k0_pay13, val_main_v84, val_main_v83]
    rw [dif_neg (by omega), dif_pos (by omega)]
    refine (congrArg s (ix2_self x)).trans ((hs (x 0) (x 1) (i 0) (by omega)).trans ?_)
    exact congrArg (fun c => T (ix2 (i 0) c)) (Fin.ext (by show (x 1).val = (i 1).val - 1280; omega))
  · pointwise [val_main_v84]
    rw [dif_pos (by omega)]
    refine (congrArg G (ix2_self x)).trans ((hG (x 0) (x 1) (i 0) (by omega)).trans ?_)
    exact congrArg (fun c => val_main_v82 (F := Ideal) X D W B (ix2 (i 0) c)) (Fin.ext (by show (x 1).val = (i 1).val; omega))

theorem ref_in (X : FVec Ideal S8192x8448 .f32) (D : FVec Ideal S8192x1280 .f32) (T : FVec Ideal S8192x128 .f32)
    (W : FVec Ideal S4x1280 .f32) (B : FVec Ideal S1280 .f32) (P : FVec Ideal S8192x8448 .bf16) (i : S8192x8448.Idx)
    (h : 4608 ≤ (i 1).val ∧ (i 1).val < 6144) :
    val_main_v88 (F := Ideal) X D T W B P i = val_main_v84 (F := Ideal) X D T W B (ix2 (i 0) ⟨(i 1).val - 4608, by omega⟩) := by
  unfold val_main_v88 val_main_v85
  generalize val_main_v84 (F := Ideal) X D T W B = Z
  generalize val_main_v86 (F := Ideal) P = Z1
  generalize val_main_v87 (F := Ideal) P = Z2
  pointwise
  rw [dif_neg (by omega), dif_pos (by omega)]

theorem ref_out (X : FVec Ideal S8192x8448 .f32) (D : FVec Ideal S8192x1280 .f32) (T : FVec Ideal S8192x128 .f32)
    (W : FVec Ideal S4x1280 .f32) (B : FVec Ideal S1280 .f32) (P : FVec Ideal S8192x8448 .bf16) (i : S8192x8448.Idx)
    (h : ¬(4608 ≤ (i 1).val ∧ (i 1).val < 6144)) : P i = val_main_v88 (F := Ideal) X D T W B P i := by
  have h1 : (i 1).val < 8448 := (i 1).isLt
  pointwise [val_main_v88, val_main_v86, val_main_v87]
  generalize val_main_v85 (F := Ideal) X D T W B = Z
  by_cases h0 : (i 1).val < 4608
  · rw [dif_pos h0]
  · rw [dif_neg h0, dif_neg (by omega)]
    refine congrArg P ((ix2_self i).trans ?_)
    exact congrArg (fun c : Fin 8448 => ix2 (i 0) c) (Fin.ext (show (i 1).val = 6144 + ((i 1).val - 4608 - 1536) by omega))

theorem finite_of_pre [Cert.Pre_finite_dact.Facts] (h : Cert.Pre_Kernel2Ideal_finite_dact m) (c : Dev nD) : Finite m c := by
  intro j
  have : Subsingleton Cert.Pre_finite_dact.S_.Idx := ⟨fun a b => funext fun i => i.elim0⟩
  have k := Host.reduce_andi_all _ _ _ _ _ (congrFun (h c) fun a => a.elim0) j
  have k' := (Ideal.xori_weird_eq_hostAbsf_olt_inf (m ((c : Thread nD τ).loc main_arg1) j)).trans k
  refine not_or.mp fun hw => ?_
  have e : FloatOps.weird (F := Ideal) (m ((c : Thread nD τ).loc main_arg1) j) = 1#1 := by
    show BitVec.ofBool (decide _) = 1#1
    rw [decide_eq_true hw]; rfl
  rw [e] at k'
  exact absurd k' (by decide)

theorem block_rows (c : Dev nD) (hf : Finite m c) (t : Fin cfg0.N) (y : S512x1536.Idx) (i : Cert.Reference2Ideal.S8192x1536.Idx)
    (hi0 : (i 0).val = 512 * t.val + (y 0).val) (hi1 : (i 1).val = (y 1).val) :
    (outsAt0 m c t.val t.isLt).1 y = val_main_v84 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) i := by
  have hs : ∀ (k : Fin 512) (c' : Fin 128) (r : Fin 8192), r.val = 512 * t.val + k.val →
      iblk (F := Ideal) m c 5 t (ix2 k c') = m ((c : Thread nD τ).loc main_arg2) (ix2 r c') := by
    intro k c' r hr
    blk_point [iblk, V, idx t]
  have hb := fun (k : Fin 512) (c' : Fin 1280) (r : Fin 8192) (hr : r.val = 512 * t.val + k.val) =>
    back_at (rows_blk m c t) (coef_blk m c t) (acts_blk m c t) hf k c' r (hr.trans (by rw [coord t]))
  by_cases h : t.val % 16 = 0
  · rw [outsAt0_A m c t h]
    frame_out
    generalize k0_pay12 (F := Ideal) _ _ _ _ _ _ _ _ _ _ = G at hb ⊢
    exact block_at _ _ _ _ _ G _ (512 * t.val) hb hs y i hi0 hi1
  · rw [outsAt0_B m c t h]
    frame_out
    generalize k0_pay12 (F := Ideal) _ _ _ _ _ _ _ _ _ _ = G at hb ⊢
    exact block_at _ _ _ _ _ G _ (512 * t.val) hb hs y i hi0 hi1

theorem emb_row (t : Fin cfg0.N) (y : (win0_8.xblock (grid0.coords t)).Idx) :
    ((win0_8.blk t).view.emb y 0).val = 512 * t.val + (y 0).val := by
  blk_simp [idx t]
  omega

theorem emb_col (t : Fin cfg0.N) (y : (win0_8.xblock (grid0.coords t)).Idx) :
    ((win0_8.blk t).view.emb y 1).val = 4608 + (y 1).val := by
  have h : win0_8.index t 1 = 3 := by
    rw [(idx t).2.2.2.2.2.2.2.2.1]
    rfl
  show win0_8.index t 1 * 1536 + 1 * (y 1).val = _
  rw [h]
  omega

theorem final_dp (c : Dev nD) (hf : Finite m c) :
    (dats m 0 c).arrAt 8 (cfgs 0).N = val_main_v88 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine ((dats m 0 c).arrAt_eq_of_coversWhere 8 (val_main_v88 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5))) (fun β => β 1 = 3) (by decide +kernel)
    (P := fun i => 4608 ≤ (i 1).val ∧ (i 1).val < 6144) (fun t h y => ?_) (fun j => by blk_simp [Pipeline.Window.cell_apply]; omega)).trans ?_
  · blk_simp
    rw [after0_8, ref_in]
    · exact block_rows m c hf t _ _ (emb_row t y) (by show ((win0_8.blk t).view.emb y 1).val - 4608 = (y 1).val; rw [emb_col t y]; omega)
    · have h1 : (y 1).val < 1536 := (y 1).isLt
      rw [emb_col t y]
      omega
  · funext i
    by_cases h : 4608 ≤ (i 1).val ∧ (i 1).val < 6144
    · rw [if_pos h]
    · rw [if_neg h, ← ref_out _ _ _ _ _ _ _ h, A_eq]
      unfold V
      after_results
      rfl

theorem claim [Cert.Pre_finite_dact.Facts] : Cert.algebraic_Kernel2Ideal_Reference2Ideal_pre_finite_dact := by
  pair_intro
  · run_from Cert.Kernel2Ideal.Value.run_blocks m g
  · refine Idealize.ShloMosaic.θ_run_mono (Cert.Reference2Ideal.Value.run m' g') ?_
    intro r hr c
    have hf := finite_of_pre m hpre c
    obtain ⟨a0, a1, a2, a3, a4, a5⟩ := hagree c
    obtain ⟨r0, r1, r2, k0, k1, k2, k3, k4, k5⟩ := hr c
    refine ⟨r0.trans ?_, r1.trans ?_, r2.trans ?_, k0, k1, k2, k3, k4, k5⟩
    · rw [val_main_v88_eq m' c, a0, a1, a2, a3, a4, a5]
      exact (final_dp m c hf).symm
    · rw [val_main_v78_eq m' c, a0, a1, a3, a4]
      exact (final_dw m c hf).symm
    · rw [val_main_v89_eq m' c, a0, a1, a3, a4]
      exact (final_db m c hf).symm

end Cert.Conv

end
-- ==== Proof.Dh1.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

/-! # The input gradient of the wide product: `dp @ wᵀ`, accumulated over three slices of the columns -/

@[expose] public section

set_option maxRecDepth 16384

noncomputable section

namespace Cert.Dh1

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The block a point of the column axis adds: the slice's product. -/
theorem pay1_at (a b : Vec Ideal S1024x2816 .bf16) (j : S1024x1024.Idx) :
    k0_pay1 (F := Ideal) a b j = ∑ k : Fin 2816, a (ix2 (j 0) k) * b (ix2 (j 1) k) := by
  pointwise [k0_pay1]

/-- A later point adds its product to what the one before left. -/
theorem pay2_at (a b : Vec Ideal S1024x2816 .bf16) (acc : Vec Ideal S1024x1024 .f32) (j : S1024x1024.Idx) :
    k0_pay2 (F := Ideal) a b acc j = acc j + ∑ k : Fin 2816, a (ix2 (j 0) k) * b (ix2 (j 1) k) := by
  pointwise [k0_pay2, k0_pay1]

theorem idx : ∀ t : Fin cfg0.N, win0_0.index t = ![t.val / 3, t.val % 3] ∧ win0_1.index t = ![0, t.val % 3]
    ∧ win0_2.index t = ![t.val / 3, 0] := (by decide +kernel : ∀ t : Fin grid0.N, _)

theorem final (c : Dev nD) : (dats m 0 c).arrAt 2 (cfgs 0).N
    = Cert.Reference3Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h (by omega)]; frame_out; rw [pay1_at, zero_add])
    (fun t h j => by rw [outsAt0_B m c t h (by omega)]; frame_out; rw [pay2_at])
    t ((flush0_2 t).mp hf) _, zero_add]
  rw [Cert.Reference3Ideal.Read.val_main_v3_apply]
  refine Fin.sum_mul_add_congr fun s k hl => ?_
  blk_point [iblk, V, idx t, idx ⟨_, Pipeline.run_point_lt_of_flush t ((flush0_2 t).mp hf) s⟩,
    Cert.Reference3Ideal.Read.val_main_v2]

theorem claim : Cert.algebraic_Kernel3Ideal_Reference3Ideal := by
  pair_intro
  · run_from Cert.Kernel3Ideal.Value.run_blocks m g
  · run_from Cert.Reference3Ideal.Value.run m' g'
    exact (final m c).symm

end Cert.Dh1

end
-- ==== Proof.DwMain.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

/-! # The weight gradient of the wide product -/

@[expose] public section

set_option maxRecDepth 16384

noncomputable section

namespace Cert.DwMain

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The product of one slice of the rows. -/
theorem part_at (a : Vec Ideal S2048x1024 .bf16) (b : Vec Ideal S2048x768 .bf16) (j : S1024x768.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x1024 .bf16) (b : Vec Ideal S2048x768 .bf16) (acc : Vec Ideal S1024x768 .f32)
    (j : S1024x768.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x1024 .bf16) (dy : FVec Ideal S8192x8448 .bf16) (j : S1024x8448.Idx) :
    Cert.Reference4Ideal.Read.val_main_v5 (F := Ideal) x dy j = ∑ l : Fin 8192, x (ix2 l (j 0)) * dy (ix2 l (j 1)) := by
  rw [Cert.Reference4Ideal.Read.val_main_v5_apply, Cert.Reference4Ideal.Read.val_main_v4_apply]
  refine Finset.sum_congr rfl fun l _ => (mul_comm _ _).trans ?_
  pointwise [Cert.Reference4Ideal.Read.val_main_v1, Cert.Reference4Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference4Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel4Ideal_Reference4Ideal := by
  pair_intro
  · run_from Cert.Kernel4Ideal.Value.run_blocks m g
  · run_from Cert.Reference4Ideal.Value.run m' g'
    exact (final m c).symm

end Cert.DwMain

end
-- ==== Proof.DwS5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

/-! # The weight gradient of the product into the S5 columns -/

@[expose] public section

set_option maxRecDepth 16384

noncomputable section

namespace Cert.DwS5

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The product of one slice of the rows. -/
theorem part_at (a : Vec Ideal S2048x1024 .bf16) (b : Vec Ideal S2048x512 .bf16) (j : S1024x512.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x1024 .bf16) (b : Vec Ideal S2048x512 .bf16) (acc : Vec Ideal S1024x512 .f32)
    (j : S1024x512.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x1024 .bf16) (dy : FVec Ideal S8192x512 .bf16) (j : S1024x512.Idx) :
    Cert.Reference5Ideal.Read.val_main_v5 (F := Ideal) x dy j = ∑ l : Fin 8192, x (ix2 l (j 0)) * dy (ix2 l (j 1)) := by
  rw [Cert.Reference5Ideal.Read.val_main_v5_apply, Cert.Reference5Ideal.Read.val_main_v4_apply]
  refine Finset.sum_congr rfl fun l _ => (mul_comm _ _).trans ?_
  pointwise [Cert.Reference5Ideal.Read.val_main_v1, Cert.Reference5Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference5Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel5Ideal_Reference5Ideal := by
  pair_intro
  · run_from Cert.Kernel5Ideal.Value.run_blocks m g
  · run_from Cert.Reference5Ideal.Value.run m' g'
    exact (final m c).symm

end Cert.DwS5

end
-- ==== Proof.DwGlu.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise

/-! # The weight gradient of the gated unit of the S5 branch -/

@[expose] public section

set_option maxRecDepth 16384

noncomputable section

namespace Cert.DwGlu

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The product of one slice of the rows. -/
theorem part_at (a : Vec Ideal S2048x512 .bf16) (b : Vec Ideal S2048x512 .bf16) (j : S512x512.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x512 .bf16) (b : Vec Ideal S2048x512 .bf16) (acc : Vec Ideal S512x512 .f32)
    (j : S512x512.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x512 .bf16) (dy : FVec Ideal S8192x512 .bf16) (j : S512x512.Idx) :
    Cert.Reference6Ideal.Read.val_main_v5 (F := Ideal) x dy j = ∑ l : Fin 8192, x (ix2 l (j 0)) * dy (ix2 l (j 1)) := by
  rw [Cert.Reference6Ideal.Read.val_main_v5_apply, Cert.Reference6Ideal.Read.val_main_v4_apply]
  refine Finset.sum_congr rfl fun l _ => (mul_comm _ _).trans ?_
  pointwise [Cert.Reference6Ideal.Read.val_main_v1, Cert.Reference6Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference6Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel6Ideal_Reference6Ideal := by
  pair_intro
  · run_from Cert.Kernel6Ideal.Value.run_blocks m g
  · run_from Cert.Reference6Ideal.Value.run m' g'
    exact (final m c).symm

end Cert.DwGlu

end
-- ==== Proof.DprojA.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

/-! # The weight gradient of the first branch projection -/

@[expose] public section

set_option maxRecDepth 16384

noncomputable section

namespace Cert.DprojA

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The product of one slice of the rows. -/
theorem part_at (a : Vec Ideal S2048x512 .bf16) (b : Vec Ideal S2048x1024 .bf16) (j : S512x1024.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x512 .bf16) (b : Vec Ideal S2048x1024 .bf16) (acc : Vec Ideal S512x1024 .f32)
    (j : S512x1024.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x512 .bf16) (dy : FVec Ideal S8192x1024 .bf16) (j : S512x1024.Idx) :
    Cert.Reference7Ideal.Read.val_main_v5 (F := Ideal) x dy j = ∑ l : Fin 8192, x (ix2 l (j 0)) * dy (ix2 l (j 1)) := by
  rw [Cert.Reference7Ideal.Read.val_main_v5_apply, Cert.Reference7Ideal.Read.val_main_v4_apply]
  refine Finset.sum_congr rfl fun l _ => (mul_comm _ _).trans ?_
  pointwise [Cert.Reference7Ideal.Read.val_main_v1, Cert.Reference7Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference7Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel7Ideal_Reference7Ideal := by
  pair_intro
  · run_from Cert.Kernel7Ideal.Value.run_blocks m g
  · run_from Cert.Reference7Ideal.Value.run m' g'
    exact (final m c).symm

end Cert.DprojA

end
-- ==== Proof.DprojB.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

/-! # The weight gradient of the second branch projection -/

@[expose] public section

set_option maxRecDepth 16384

noncomputable section

namespace Cert.DprojB

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The product of one slice of the rows. -/
theorem part_at (a : Vec Ideal S2048x256 .bf16) (b : Vec Ideal S2048x1024 .bf16) (j : S256x1024.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x256 .bf16) (b : Vec Ideal S2048x1024 .bf16) (acc : Vec Ideal S256x1024 .f32)
    (j : S256x1024.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x256 .bf16) (dy : FVec Ideal S8192x1024 .bf16) (j : S256x1024.Idx) :
    Cert.Reference8Ideal.Read.val_main_v5 (F := Ideal) x dy j = ∑ l : Fin 8192, x (ix2 l (j 0)) * dy (ix2 l (j 1)) := by
  rw [Cert.Reference8Ideal.Read.val_main_v5_apply, Cert.Reference8Ideal.Read.val_main_v4_apply]
  refine Finset.sum_congr rfl fun l _ => (mul_comm _ _).trans ?_
  pointwise [Cert.Reference8Ideal.Read.val_main_v1, Cert.Reference8Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference8Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel8Ideal_Reference8Ideal := by
  pair_intro
  · run_from Cert.Kernel8Ideal.Value.run_blocks m g
  · run_from Cert.Reference8Ideal.Value.run m' g'
    exact (final m c).symm

end Cert.DprojB

end
-- ==== Proof.DprojC.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

/-! # The weight gradient of the third branch projection -/

@[expose] public section

set_option maxRecDepth 16384

noncomputable section

namespace Cert.DprojC

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The product of one slice of the rows. -/
theorem part_at (a : Vec Ideal S2048x768 .bf16) (b : Vec Ideal S2048x1024 .bf16) (j : S768x1024.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x768 .bf16) (b : Vec Ideal S2048x1024 .bf16) (acc : Vec Ideal S768x1024 .f32)
    (j : S768x1024.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x768 .bf16) (dy : FVec Ideal S8192x1024 .bf16) (j : S768x1024.Idx) :
    Cert.Reference9Ideal.Read.val_main_v5 (F := Ideal) x dy j = ∑ l : Fin 8192, x (ix2 l (j 0)) * dy (ix2 l (j 1)) := by
  rw [Cert.Reference9Ideal.Read.val_main_v5_apply, Cert.Reference9Ideal.Read.val_main_v4_apply]
  refine Finset.sum_congr rfl fun l _ => (mul_comm _ _).trans ?_
  pointwise [Cert.Reference9Ideal.Read.val_main_v1, Cert.Reference9Ideal.Read.val_main_v3]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference9Ideal.Read.val_main_v5 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel9Ideal_Reference9Ideal := by
  pair_intro
  · run_from Cert.Kernel9Ideal.Value.run_blocks m g
  · run_from Cert.Reference9Ideal.Value.run m' g'
    exact (final m c).symm

end Cert.DprojC

end
-- ==== Proof.DwOut.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

/-! # The weight gradient of the output projection -/

@[expose] public section

set_option maxRecDepth 16384

noncomputable section

namespace Cert.DwOut

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The product of one slice of the rows. -/
theorem part_at (a : Vec Ideal S2048x1024 .bf16) (b : Vec Ideal S2048x1024 .f32) (j : S1024x1024.Idx) :
    k0_pay1 (F := Ideal) a b j = ∑ k : Fin 2048, a (ix2 k (j 0)) * b (ix2 k (j 1)) := by
  pointwise [k0_pay1]

/-- A later slice adds its product to what the slices before it left. -/
theorem step_at (a : Vec Ideal S2048x1024 .bf16) (b : Vec Ideal S2048x1024 .f32) (acc : Vec Ideal S1024x1024 .f32)
    (j : S1024x1024.Idx) :
    k0_pay2 (F := Ideal) a b acc j = acc j + ∑ k : Fin 2048, a (ix2 k (j 0)) * b (ix2 k (j 1)) := by
  pointwise [k0_pay2, k0_pay1]

/-- The reference's gradient is the sum over all the rows. -/
theorem whole_at (x : FVec Ideal S8192x1024 .bf16) (dy : FVec Ideal S8192x1024 .f32) (j : S1024x1024.Idx) :
    Cert.Reference10Ideal.Read.val_main_v4 (F := Ideal) x dy j = ∑ l : Fin 8192, x (ix2 l (j 0)) * dy (ix2 l (j 1)) := by
  rw [Cert.Reference10Ideal.Read.val_main_v4_apply, Cert.Reference10Ideal.Read.val_main_v3_apply]
  refine Finset.sum_congr rfl fun l _ => (mul_comm _ _).trans ?_
  pointwise [Cert.Reference10Ideal.Read.val_main_v1]
  blk_point []

theorem idx : ∀ t : Fin cfg0.N, win0_0.index t = ![t.val % 4, 0] ∧ win0_1.index t = ![t.val % 4, t.val / 4]
    ∧ win0_2.index t = ![0, t.val / 4] := (by decide +kernel : ∀ t : Fin grid0.N, _)

/-- After the run the result array is the reference's gradient. -/
theorem final (c : Dev nD) : (dats m 0 c).arrAt 2 (cfgs 0).N
    = Cert.Reference10Ideal.Read.val_main_v4 (F := Ideal) (m ((c : Thread nD τ).loc main_arg0))
        (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by
      rw [outsAt0_A m c t h (by have := lt_of_lt_of_eq t.isLt N_0; omega)]; frame_out; rw [part_at, zero_add])
    (fun t h j => by rw [outsAt0_B m c t h (by omega)]; frame_out; rw [step_at])
    t ((flush0_2 t).mp hf) _, zero_add, whole_at]
  refine Fin.sum_mul_add_congr fun s k hl => ?_
  blk_point [iblk, V, idx t, idx ⟨_, Pipeline.run_point_lt_of_flush t ((flush0_2 t).mp hf) s⟩]

theorem claim : Cert.algebraic_Kernel10Ideal_Reference10Ideal := by
  pair_intro
  · run_from Cert.Kernel10Ideal.Value.run_blocks m g
  · run_from Cert.Reference10Ideal.Value.run m' g'
    exact (final m c).symm

end Cert.DwOut

end
-- ==== Proof.InMain.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

/-! # The wide product of the forward pass -/

@[expose] public section

set_option maxRecDepth 16384

noncomputable section

namespace Cert.InMain

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- One tile of the product. -/
theorem tile_at (a : Vec Ideal S2048x1024 .bf16) (b : Vec Ideal S1024x768 .bf16) (j : S2048x768.Idx) :
    k0_pay1 (F := Ideal) a b j = ∑ k : Fin 1024, a (ix2 (j 0) k) * b (ix2 k (j 1)) := by
  pointwise [k0_pay1]

/-- The reference's product at an entry. -/
theorem whole_at (x : FVec Ideal S8192x1024 .bf16) (w : FVec Ideal S1024x8448 .f32) (j : S8192x8448.Idx) :
    Cert.Reference11Ideal.Read.val_main_v1 (F := Ideal) x w j = ∑ l : Fin 1024, x (ix2 (j 0) l) * w (ix2 l (j 1)) := by
  rw [Cert.Reference11Ideal.Read.val_main_v1_apply]
  pointwise [Cert.Reference11Ideal.Read.val_main_v0]
  blk_point []

theorem idx : ∀ t : Fin cfg0.N, win0_0.index t = ![t.val / 11, 0] ∧ win0_1.index t = ![0, t.val % 11]
    ∧ win0_2.index t = ![t.val / 11, t.val % 11] := (by decide +kernel : ∀ t : Fin grid0.N, _)

/-- After the run the result array is the reference's product. -/
theorem final (c : Dev nD) : (dats m 0 c).arrAt 2 (cfgs 0).N
    = Cert.Reference11Ideal.Read.val_main_v1 (F := Ideal) (m ((c : Thread nD τ).loc main_arg0))
        (m ((c : Thread nD τ).loc main_arg1)) := by
  refine (dats m 0 c).arrAt_eq_of_covers 2 _ (by decide +kernel) fun t hf y => ?_
  blk_simp
  rw [after0_2]
  frame_out
  rw [tile_at, whole_at]
  blk_point [iblk, V, idx t]

theorem claim : Cert.algebraic_Kernel11Ideal_Reference11Ideal := by
  pair_intro
  · run_from Cert.Kernel11Ideal.Value.run_blocks m g
  · run_from Cert.Reference11Ideal.Value.run m' g'
    exact (final m c).symm

end Cert.InMain

end
-- ==== Proof.InS5.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

/-! # The product into the S5 columns of the forward pass -/

@[expose] public section

set_option maxRecDepth 16384

noncomputable section

namespace Cert.InS5

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- One tile of the product. -/
theorem tile_at (a : Vec Ideal S2048x1024 .bf16) (b : Vec Ideal S1024x512 .bf16) (j : S2048x512.Idx) :
    k0_pay1 (F := Ideal) a b j = ∑ k : Fin 1024, a (ix2 (j 0) k) * b (ix2 k (j 1)) := by
  pointwise [k0_pay1]

/-- The reference's product at an entry. -/
theorem whole_at (x : FVec Ideal S8192x1024 .bf16) (w : FVec Ideal S1024x512 .f32) (j : S8192x512.Idx) :
    Cert.Reference12Ideal.Read.val_main_v1 (F := Ideal) x w j = ∑ l : Fin 1024, x (ix2 (j 0) l) * w (ix2 l (j 1)) := by
  rw [Cert.Reference12Ideal.Read.val_main_v1_apply]
  pointwise [Cert.Reference12Ideal.Read.val_main_v0]
  blk_point []

theorem idx : ∀ t : Fin cfg0.N, win0_0.index t = ![t.val / 1, 0] ∧ win0_1.index t = ![0, t.val % 1]
    ∧ win0_2.index t = ![t.val / 1, t.val % 1] := (by decide +kernel : ∀ t : Fin grid0.N, _)

/-- After the run the result array is the reference's product. -/
theorem final (c : Dev nD) : (dats m 0 c).arrAt 2 (cfgs 0).N
    = Cert.Reference12Ideal.Read.val_main_v1 (F := Ideal) (m ((c : Thread nD τ).loc main_arg0))
        (m ((c : Thread nD τ).loc main_arg1)) := by
  refine (dats m 0 c).arrAt_eq_of_covers 2 _ (by decide +kernel) fun t hf y => ?_
  blk_simp
  rw [after0_2]
  frame_out
  rw [tile_at, whole_at]
  blk_point [iblk, V, idx t]

theorem claim : Cert.algebraic_Kernel12Ideal_Reference12Ideal := by
  pair_intro
  · run_from Cert.Kernel12Ideal.Value.run_blocks m g
  · run_from Cert.Reference12Ideal.Value.run m' g'
    exact (final m c).symm

end Cert.InS5

end
-- ==== Proof.AdamStep.lean ====
module

public import Idealize.ShloMosaic.Lib.Pointwise

/-! # One step of the optimiser on one weight, over the extended reals -/

@[expose] public section

noncomputable section

namespace Cert.AdamStep

open Idealize.ShloMosaic

/-- The new first moment: `0.9 m + 0.1 g`, each constant the rational of its float word. -/
def newM (g p : EReal) : EReal := Ideal.ofBits .f32 0x3F666666#32 * p + Ideal.ofBits .f32 0x3DCCCCCD#32 * g

/-- The new second moment: `0.999 v + 0.001 g²`. -/
def newV (g q : EReal) : EReal :=
  Ideal.ofBits .f32 0x3F7FBE77#32 * q + Ideal.ofBits .f32 0x3A83126F#32 * (g * g)

/-- The weight's step: `-lr (m̂ / (√v̂ + ε) + λ w)`, the moments divided by their corrections. -/
def delta (g w p q : EReal) : EReal :=
  Ideal.ofBits .f32 3129152111#32
    * (Ideal.div (Ideal.div (newM g p) (Ideal.ofBits .f32 1059503362#32))
        (Ideal.sqrt (Ideal.div (newV g q) (Ideal.ofBits .f32 1008933580#32)) + Ideal.ofBits .f32 841731191#32)
      + Ideal.ofBits .f32 1008981770#32 * w)

end Cert.AdamStep

end
-- ==== Proof.AdamIn.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.AdamStep
public import Idealize.ShloMosaic.Lib.Pipeline.ValueKit
public import Idealize.ShloMosaic.Lib.Pointwise

/-! # The optimiser of one layer's input projection, from the four landed parts of its gradient -/

@[expose] public section

set_option maxRecDepth 16384

noncomputable section

namespace Cert.AdamIn

open Idealize.ShloMosaic Idealize.ShloMosaic.TcCoe Idealize.SL.Sem
open Idealize.ShloMosaic.Pipeline (Dat)
open Cert.AdamStep
open Cert.Kernel13Ideal Cert.Kernel13Ideal.Gen

variable (m : (ℓ : Loc nD τ sig) → Buf (Elt Ideal) ℓ)

/-- The four landed parts at one entry, added up. -/
abbrev four (a b d e : Vec Ideal S1x256x2179 .bf16) (j : S256x2179.Idx) : EReal :=
  a (ix3 0 (j 0) (j 1)) + b (ix3 0 (j 0) (j 1)) + d (ix3 0 (j 0) (j 1)) + e (ix3 0 (j 0) (j 1))

theorem g_at (a b d e : Vec Ideal S1x256x2179 .bf16) (j : S256x2179.Idx) : k0_pay2 (F := Ideal) a b d e j = four a b d e j := by
  pointwise [k0_pay2, four]

theorem m_at (a b d e : Vec Ideal S1x256x2179 .bf16) (p : Vec Ideal S256x2179 .f32) (j : S256x2179.Idx) :
    k0_pay3 (F := Ideal) a b d e p j = newM (four a b d e j) (p j) := by
  pointwise [k0_pay3, k0_pay2, newM, four]

theorem v_at (a b d e : Vec Ideal S1x256x2179 .bf16) (q : Vec Ideal S256x2179 .f32) (j : S256x2179.Idx) :
    k0_pay4 (F := Ideal) a b d e q j = newV (four a b d e j) (q j) := by
  pointwise [k0_pay4, k0_pay2, newV, four]

/-- The same sum of the four parts of one block. -/
abbrev blkparts (x : Vec Ideal S4x256x2179 .bf16) (j : S256x2179.Idx) : EReal :=
  x (ix3 0 (j 0) (j 1)) + x (ix3 1 (j 0) (j 1)) + x (ix3 2 (j 0) (j 1)) + x (ix3 3 (j 0) (j 1))

theorem four_ld (x : Vec Ideal S4x256x2179 .bf16) (j : S256x2179.Idx) :
    four (View.ld x r0_0) (View.ld x r0_1) (View.ld x r0_2) (View.ld x r0_3) j = blkparts x j := by
  pointwise [four, blkparts]

theorem v_at' (x : Vec Ideal S4x256x2179 .bf16) (w p q : Vec Ideal S256x2179 .f32) (j : S256x2179.Idx) :
    k0_pay6 (F := Ideal) x w p q j = newV (blkparts x j) (q j) := by
  unfold k0_pay6
  rw [v_at, four_ld]
  pointwise [blkparts, newV]

theorem delta_at' (x : Vec Ideal S4x256x2179 .bf16) (w p q : Vec Ideal S256x2179 .f32) (j : S256x2179.Idx) :
    k0_pay1 (F := Ideal) w (k0_pay6 x w p q) (k0_pay5 (View.ld x r0_0) (View.ld x r0_1) (View.ld x r0_2) (View.ld x r0_3) p)
      (FloatOps.ofBits .f32 0x3C231ACC#32) j = delta (blkparts x j) (w j) (p j) (q j) := by
  pointwise [k0_pay1, k0_pay5, k0_pay3, k0_pay2, delta, newM, blkparts]
  rw [v_at']

/-- The same sum of the four parts of the whole array. -/
abbrev parts (a : FVec Ideal S4x1024x2179 .bf16) (j : S1024x2179.Idx) : EReal :=
  a (ix3 0 (j 0) (j 1)) + a (ix3 1 (j 0) (j 1)) + a (ix3 2 (j 0) (j 1)) + a (ix3 3 (j 0) (j 1))

theorem g_ref (a : FVec Ideal S4x1024x2179 .bf16) (j : S1024x2179.Idx) :
    Cert.Reference13Ideal.Read.val_main_v1 (F := Ideal) a j = parts a j := by
  pointwise [Cert.Reference13Ideal.Read.val_main_v1, Cert.Reference13Ideal.Read.val_main_v0, Cert.Reference13Ideal.Read.val_main_cst]
  exact Fin.sum_univ_four _

theorem delta_ref (a : FVec Ideal S4x1024x2179 .bf16) (w p q : FVec Ideal S1024x2179 .f32) (j : S1024x2179.Idx) :
    Cert.Reference13Ideal.Read.val_main_v25 (F := Ideal) a w p q j = delta (parts a j) (w j) (p j) (q j) := by
  rw [← g_ref]
  pointwise [delta, newM, newV, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

theorem m_ref (a : FVec Ideal S4x1024x2179 .bf16) (p : FVec Ideal S1024x2179 .f32) (j : S1024x2179.Idx) :
    Cert.Reference13Ideal.Read.val_main_v6 (F := Ideal) a p j = newM (parts a j) (p j) := by
  rw [← g_ref]
  pointwise [newM, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

theorem v_ref (a : FVec Ideal S4x1024x2179 .bf16) (q : FVec Ideal S1024x2179 .f32) (j : S1024x2179.Idx) :
    Cert.Reference13Ideal.Read.val_main_v12 (F := Ideal) a q j = newV (parts a j) (q j) := by
  rw [← g_ref]
  pointwise [newV, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- An entry of the landed parts' block at a grid point. -/
theorem in0 (c : Dev nD) (t : Fin cfg0.N) (k : Fin 4) (a : Fin 256) (b : Fin 2179) (h : t.val * 256 + a.val < 1024) :
    iblk m c 0 t (ix3 k a b) = m ((c : Thread nD τ).loc main_arg0) (ix3 k ⟨t.val * 256 + a.val, h⟩ b) := by
  blk_point [iblk, V, idx t]

theorem in_parts (c : Dev nD) (t : Fin cfg0.N) (y : S256x2179.Idx) (i : S1024x2179.Idx)
    (h0 : (i 0).val = t.val * 256 + (y 0).val) (h1 : (i 1).val = (y 1).val) :
    blkparts (iblk m c 0 t) y = parts (m ((c : Thread nD τ).loc main_arg0)) i := by
  have hi : (i 0).val < 1024 := (i 0).isLt
  have h : t.val * 256 + (y 0).val < 1024 := by omega
  have e : ∀ k : Fin 4, (ix3 k ⟨t.val * 256 + (y 0).val, h⟩ (y 1) : S4x1024x2179.Idx) = ix3 k (i 0) (i 1) :=
    fun k => congrArg₂ (ix3 k) (Fin.ext h0.symm) (Fin.ext h1.symm)
  have r : ∀ k : Fin 4, iblk m c 0 t (ix3 k (y 0) (y 1)) = m ((c : Thread nD τ).loc main_arg0) (ix3 k (i 0) (i 1)) :=
    fun k => (in0 m c t k (y 0) (y 1) h).trans (congrArg _ (e k))
  exact congrArg₂ (· + ·) (congrArg₂ (· + ·) (congrArg₂ (· + ·) (r 0) (r 1)) (r 2)) (r 3)

theorem in1 (c : Dev nD) (t : Fin cfg0.N) (y : S256x2179.Idx) (i : S1024x2179.Idx)
    (h0 : (i 0).val = t.val * 256 + (y 0).val) (h1 : (i 1).val = (y 1).val) :
    iblk m c 1 t y = m ((c : Thread nD τ).loc main_arg1) i := by
  blk_point [iblk, V, idx t, h0, h1]

theorem in2 (c : Dev nD) (t : Fin cfg0.N) (y : S256x2179.Idx) (i : S1024x2179.Idx)
    (h0 : (i 0).val = t.val * 256 + (y 0).val) (h1 : (i 1).val = (y 1).val) :
    iblk m c 2 t y = m ((c : Thread nD τ).loc main_arg2) i := by
  blk_point [iblk, V, idx t, h0, h1]

theorem in3 (c : Dev nD) (t : Fin cfg0.N) (y : S256x2179.Idx) (i : S1024x2179.Idx)
    (h0 : (i 0).val = t.val * 256 + (y 0).val) (h1 : (i 1).val = (y 1).val) :
    iblk m c 3 t y = m ((c : Thread nD τ).loc main_arg3) i := by
  blk_point [iblk, V, idx t, h0, h1]

/-- After the run this result is the sum of the parts. -/
theorem final_g (c : Dev nD) : (dats m 0 c).arrAt 4 (cfgs 0).N
    = Cert.Reference13Ideal.Read.val_main_v1 (F := Ideal) (m ((c : Thread nD τ).loc main_arg0)) := by
  refine (dats m 0 c).arrAt_eq_of_covers 4 _ (by decide +kernel) fun t hf y => ?_
  blk_simp
  have h0 : (((View.whole main_v0_0).slice (win0_4.rect t)).emb y 0).val = t.val * 256 + (y 0).val := by
    show win0_4.index t 0 * 256 + 1 * (y 0).val = _
    rw [(idx t).2.2.2.2.1]
    simp
  have h1 : (((View.whole main_v0_0).slice (win0_4.rect t)).emb y 1).val = (y 1).val := by
    show win0_4.index t 1 * 2179 + 1 * (y 1).val = _
    rw [(idx t).2.2.2.2.1]
    simp
  rw [after0_4]
  frame_out
  rw [g_at, four_ld, g_ref, in_parts m c t y _ h0 h1]

/-- After the run this result is the weight's step. -/
theorem final_delta (c : Dev nD) : (dats m 0 c).arrAt 5 (cfgs 0).N
    = Cert.Reference13Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h0 : (((View.whole main_v0_1).slice (win0_5.rect t)).emb y 0).val = t.val * 256 + (y 0).val := by
    show win0_5.index t 0 * 256 + 1 * (y 0).val = _
    rw [(idx t).2.2.2.2.2.1]
    simp
  have h1 : (((View.whole main_v0_1).slice (win0_5.rect t)).emb y 1).val = (y 1).val := by
    show win0_5.index t 1 * 2179 + 1 * (y 1).val = _
    rw [(idx t).2.2.2.2.2.1]
    simp
  rw [after0_5]
  frame_out
  rw [delta_at', delta_ref, in_parts m c t y _ h0 h1, in1 m c t y _ h0 h1, in2 m c t y _ h0 h1, in3 m c t y _ h0 h1]

/-- After the run this result is the new first moment. -/
theorem final_m (c : Dev nD) : (dats m 0 c).arrAt 6 (cfgs 0).N
    = Cert.Reference13Ideal.Read.val_main_v6 (F := Ideal) (m ((c : Thread nD τ).loc main_arg0)) (m ((c : Thread nD τ).loc main_arg2)) := by
  refine (dats m 0 c).arrAt_eq_of_covers 6 _ (by decide +kernel) fun t hf y => ?_
  blk_simp
  have h0 : (((View.whole main_v0_2).slice (win0_6.rect t)).emb y 0).val = t.val * 256 + (y 0).val := by
    show win0_6.index t 0 * 256 + 1 * (y 0).val = _
    rw [(idx t).2.2.2.2.2.2.1]
    simp
  have h1 : (((View.whole main_v0_2).slice (win0_6.rect t)).emb y 1).val = (y 1).val := by
    show win0_6.index t 1 * 2179 + 1 * (y 1).val = _
    rw [(idx t).2.2.2.2.2.2.1]
    simp
  rw [after0_6]
  frame_out
  rw [m_at, four_ld, m_ref, in_parts m c t y _ h0 h1, in2 m c t y _ h0 h1]

/-- After the run this result is the new second moment. -/
theorem final_v (c : Dev nD) : (dats m 0 c).arrAt 7 (cfgs 0).N
    = Cert.Reference13Ideal.Read.val_main_v12 (F := Ideal) (m ((c : Thread nD τ).loc main_arg0)) (m ((c : Thread nD τ).loc main_arg3)) := by
  refine (dats m 0 c).arrAt_eq_of_covers 7 _ (by decide +kernel) fun t hf y => ?_
  blk_simp
  have h0 : (((View.whole main_v0_3).slice (win0_7.rect t)).emb y 0).val = t.val * 256 + (y 0).val := by
    show win0_7.index t 0 * 256 + 1 * (y 0).val = _
    rw [(idx t).2.2.2.2.2.2.2]
    simp
  have h1 : (((View.whole main_v0_3).slice (win0_7.rect t)).emb y 1).val = (y 1).val := by
    show win0_7.index t 1 * 2179 + 1 * (y 1).val = _
    rw [(idx t).2.2.2.2.2.2.2]
    simp
  rw [after0_7]
  frame_out
  rw [v_at', v_ref, in_parts m c t y _ h0 h1, in3 m c t y _ h0 h1]

theorem claim : Cert.algebraic_Kernel13Ideal_Reference13Ideal := by
  pair_intro
  · run_from Cert.Kernel13Ideal.Value.run_blocks m g
  · refine Idealize.ShloMosaic.θ_run_mono (Cert.Reference13Ideal.Value.run m' g') ?_
    intro r hr c
    obtain ⟨a0, a1, a2, a3⟩ := hagree c
    obtain ⟨r0, r1, r2, r3, k0, k1, k2, k3⟩ := hr c
    refine ⟨r0.trans ?_, r1.trans ?_, r2.trans ?_, r3.trans ?_, k0, k1, k2, k3⟩
    · rw [a0]; exact (Cert.Reference13Ideal.Read.val_main_v1_eq _).trans (final_g m c).symm
    · rw [a0, a1, a2, a3]
      exact (Cert.Reference13Ideal.Read.val_main_v25_eq _ _ _ _).trans (final_delta m c).symm
    · rw [a0, a2]; exact (Cert.Reference13Ideal.Read.val_main_v6_eq _ _).trans (final_m m c).symm
    · rw [a0, a3]; exact (Cert.Reference13Ideal.Read.val_main_v12_eq _ _).trans (final_v m c).symm

end Cert.AdamIn

end
-- ==== Proof.AdamGlu.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.AdamStep
public import Idealize.ShloMosaic.Lib.Pipeline.ValueKit
public import Idealize.ShloMosaic.Lib.Pointwise

/-! # The optimiser of the S5 gate's weights -/

@[expose] public section

set_option maxRecDepth 16384

noncomputable section

namespace Cert.AdamGlu

open Idealize.ShloMosaic Idealize.ShloMosaic.TcCoe Idealize.SL.Sem
open Idealize.ShloMosaic.Pipeline (Dat)
open Cert.AdamStep
open Cert.Kernel14Ideal Cert.Kernel14Ideal.Gen

variable (m : (ℓ : Loc nD τ sig) → Buf (Elt Ideal) ℓ)

theorem g_at (a b : Vec Ideal S256x512 .f32) (j : S256x512.Idx) : k0_pay1 (F := Ideal) a b j = a j + b j := by
  pointwise [k0_pay1]

theorem delta_at (a b w p q : Vec Ideal S256x512 .f32) (j : S256x512.Idx) :
    k0_pay4 (F := Ideal) a b w p q j = delta (a j + b j) (w j) (p j) (q j) := by
  pointwise [k0_pay4, k0_pay3, k0_pay2, k0_pay1, delta, newM, newV]

theorem m_at (a b p : Vec Ideal S256x512 .f32) (j : S256x512.Idx) : k0_pay2 (F := Ideal) a b p j = newM (a j + b j) (p j) := by
  pointwise [k0_pay2, k0_pay1, newM]

theorem v_at (a b q : Vec Ideal S256x512 .f32) (j : S256x512.Idx) : k0_pay3 (F := Ideal) a b q j = newV (a j + b j) (q j) := by
  pointwise [k0_pay3, k0_pay1, newV]

/-- The two layers' rows one under the other. -/
abbrev rows (a : FVec Ideal S2x128x512 .f32) : FVec Ideal S256x512 .f32 :=
  shapeCast S256x512 a Cert.Kernel14Ideal.Gen.shapeCasts_S2x128x512_S256x512

theorem g_ref (a b : FVec Ideal S2x128x512 .f32) (j : S256x512.Idx) :
    Cert.Reference14Ideal.Read.val_main_v25 (F := Ideal) a b j = rows a j + rows b j := by
  pointwise [Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]

theorem delta_ref (a b w p q : FVec Ideal S2x128x512 .f32) (j : S256x512.Idx) :
    Cert.Reference14Ideal.Read.val_main_v26 (F := Ideal) a b w p q j
      = delta (rows a j + rows b j) (rows w j) (rows p j) (rows q j) := by
  pointwise [delta, newM, newV, Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]

theorem m_ref (a b p : FVec Ideal S2x128x512 .f32) (j : S256x512.Idx) :
    Cert.Reference14Ideal.Read.val_main_v27 (F := Ideal) a b p j = newM (rows a j + rows b j) (rows p j) := by
  pointwise [newM, Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]

theorem v_ref (a b q : FVec Ideal S2x128x512 .f32) (j : S256x512.Idx) :
    Cert.Reference14Ideal.Read.val_main_v28 (F := Ideal) a b q j = newV (rows a j + rows b j) (rows q j) := by
  pointwise [newV, Cert.Reference14Ideal.Read.val_main_v0, Cert.Reference14Ideal.Read.val_main_v1, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_v26, Cert.Reference14Ideal.Read.val_main_v27, Cert.Reference14Ideal.Read.val_main_v28, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference14Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference14Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference14Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference14Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel14Ideal_Reference14Ideal := by
  pair_intro
  · run_from Cert.Kernel14Ideal.Value.run_blocks m g
  · run_from Cert.Reference14Ideal.Value.run m' g'
    · exact (final_g m c).symm
    · exact (final_delta m c).symm
    · exact (final_m m c).symm
    · exact (final_v m c).symm

end Cert.AdamGlu

end
-- ==== Proof.AdamConv.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.AdamStep
public import Idealize.ShloMosaic.Lib.Pipeline.ValueKit
public import Idealize.ShloMosaic.Lib.Pointwise

/-! # The optimiser of the convolution's weights -/

@[expose] public section

set_option maxRecDepth 16384

noncomputable section

namespace Cert.AdamConv

open Idealize.ShloMosaic Idealize.ShloMosaic.TcCoe Idealize.SL.Sem
open Idealize.ShloMosaic.Pipeline (Dat)
open Cert.AdamStep
open Cert.Kernel15Ideal Cert.Kernel15Ideal.Gen

variable (m : (ℓ : Loc nD τ sig) → Buf (Elt Ideal) ℓ)

theorem g_at (a b : Vec Ideal S8x320 .f32) (j : S8x320.Idx) : k0_pay1 (F := Ideal) a b j = a j + b j := by
  pointwise [k0_pay1]

theorem delta_at (a b w p q : Vec Ideal S8x320 .f32) (j : S8x320.Idx) :
    k0_pay4 (F := Ideal) a b w p q j = delta (a j + b j) (w j) (p j) (q j) := by
  pointwise [k0_pay4, k0_pay3, k0_pay2, k0_pay1, delta, newM, newV]

theorem m_at (a b p : Vec Ideal S8x320 .f32) (j : S8x320.Idx) : k0_pay2 (F := Ideal) a b p j = newM (a j + b j) (p j) := by
  pointwise [k0_pay2, k0_pay1, newM]

theorem v_at (a b q : Vec Ideal S8x320 .f32) (j : S8x320.Idx) : k0_pay3 (F := Ideal) a b q j = newV (a j + b j) (q j) := by
  pointwise [k0_pay3, k0_pay1, newV]

/-- The two layers' rows one under the other. -/
abbrev rows (a : FVec Ideal S2x4x320 .f32) : FVec Ideal S8x320 .f32 :=
  shapeCast S8x320 a Cert.Kernel15Ideal.Gen.shapeCasts_S2x4x320_S8x320

theorem g_ref (a b : FVec Ideal S2x4x320 .f32) (j : S8x320.Idx) :
    Cert.Reference15Ideal.Read.val_main_v25 (F := Ideal) a b j = rows a j + rows b j := by
  pointwise [Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7]

theorem delta_ref (a b w p q : FVec Ideal S2x4x320 .f32) (j : S8x320.Idx) :
    Cert.Reference15Ideal.Read.val_main_v26 (F := Ideal) a b w p q j
      = delta (rows a j + rows b j) (rows w j) (rows p j) (rows q j) := by
  pointwise [delta, newM, newV, Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7]

theorem m_ref (a b p : FVec Ideal S2x4x320 .f32) (j : S8x320.Idx) :
    Cert.Reference15Ideal.Read.val_main_v27 (F := Ideal) a b p j = newM (rows a j + rows b j) (rows p j) := by
  pointwise [newM, Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7]

theorem v_ref (a b q : FVec Ideal S2x4x320 .f32) (j : S8x320.Idx) :
    Cert.Reference15Ideal.Read.val_main_v28 (F := Ideal) a b q j = newV (rows a j + rows b j) (rows q j) := by
  pointwise [newV, Cert.Reference15Ideal.Read.val_main_v0, Cert.Reference15Ideal.Read.val_main_v1, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference15Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference15Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference15Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference15Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel15Ideal_Reference15Ideal := by
  pair_intro
  · run_from Cert.Kernel15Ideal.Value.run_blocks m g
  · run_from Cert.Reference15Ideal.Value.run m' g'
    · exact (final_g m c).symm
    · exact (final_delta m c).symm
    · exact (final_m m c).symm
    · exact (final_v m c).symm

end Cert.AdamConv

end
-- ==== Proof.AdamA.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamStep
public import Idealize.ShloMosaic.Lib.Pipeline.ValueKit
public import Idealize.ShloMosaic.Lib.Pointwise

/-! # The optimiser of the S5 mixer's output projection -/

@[expose] public section

set_option maxRecDepth 16384

noncomputable section

namespace Cert.AdamA

open Idealize.ShloMosaic Idealize.ShloMosaic.TcCoe Idealize.SL.Sem
open Idealize.ShloMosaic.Pipeline (Dat)
open Cert.AdamStep
open Cert.Kernel16Ideal Cert.Kernel16Ideal.Gen

variable (m : (ℓ : Loc nD τ sig) → Buf (Elt Ideal) ℓ)

theorem g_at (a b : Vec Ideal S512x256 .f32) (j : S512x256.Idx) : k0_pay1 (F := Ideal) a b j = a j + b j := by
  pointwise [k0_pay1]

theorem delta_at (a b w p q : Vec Ideal S512x256 .f32) (j : S512x256.Idx) :
    k0_pay4 (F := Ideal) a b w p q j = delta (a j + b j) (w j) (p j) (q j) := by
  pointwise [k0_pay4, k0_pay3, k0_pay2, k0_pay1, delta, newM, newV]

theorem m_at (a b p : Vec Ideal S512x256 .f32) (j : S512x256.Idx) : k0_pay2 (F := Ideal) a b p j = newM (a j + b j) (p j) := by
  pointwise [k0_pay2, k0_pay1, newM]

theorem v_at (a b q : Vec Ideal S512x256 .f32) (j : S512x256.Idx) : k0_pay3 (F := Ideal) a b q j = newV (a j + b j) (q j) := by
  pointwise [k0_pay3, k0_pay1, newV]

/-- The two layers' rows one under the other. -/
abbrev rows (a : FVec Ideal S2x512x256 .f32) : FVec Ideal S1024x256 .f32 :=
  shapeCast S1024x256 a Cert.Kernel16Ideal.Gen.shapeCasts_S2x512x256_S1024x256

theorem g_ref (a b : FVec Ideal S2x512x256 .f32) (j : S1024x256.Idx) :
    Cert.Reference16Ideal.Read.val_main_v25 (F := Ideal) a b j = rows a j + rows b j := by
  pointwise [Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7]

theorem delta_ref (a b w p q : FVec Ideal S2x512x256 .f32) (j : S1024x256.Idx) :
    Cert.Reference16Ideal.Read.val_main_v26 (F := Ideal) a b w p q j
      = delta (rows a j + rows b j) (rows w j) (rows p j) (rows q j) := by
  pointwise [delta, newM, newV, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7]

theorem m_ref (a b p : FVec Ideal S2x512x256 .f32) (j : S1024x256.Idx) :
    Cert.Reference16Ideal.Read.val_main_v27 (F := Ideal) a b p j = newM (rows a j + rows b j) (rows p j) := by
  pointwise [newM, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7]

theorem v_ref (a b q : FVec Ideal S2x512x256 .f32) (j : S1024x256.Idx) :
    Cert.Reference16Ideal.Read.val_main_v28 (F := Ideal) a b q j = newV (rows a j + rows b j) (rows q j) := by
  pointwise [newV, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_v26, Cert.Reference16Ideal.Read.val_main_v27, Cert.Reference16Ideal.Read.val_main_v28, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference16Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference16Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference16Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference16Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel16Ideal_Reference16Ideal := by
  pair_intro
  · run_from Cert.Kernel16Ideal.Value.run_blocks m g
  · run_from Cert.Reference16Ideal.Value.run m' g'
    · exact (final_g m c).symm
    · exact (final_delta m c).symm
    · exact (final_m m c).symm
    · exact (final_v m c).symm

end Cert.AdamA

end
-- ==== Proof.AdamB.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamStep
public import Idealize.ShloMosaic.Lib.Pipeline.ValueKit
public import Idealize.ShloMosaic.Lib.Pointwise

/-! # The optimiser of the attention's output projection -/

@[expose] public section

set_option maxRecDepth 16384

noncomputable section

namespace Cert.AdamB

open Idealize.ShloMosaic Idealize.ShloMosaic.TcCoe Idealize.SL.Sem
open Idealize.ShloMosaic.Pipeline (Dat)
open Cert.AdamStep
open Cert.Kernel17Ideal Cert.Kernel17Ideal.Gen

variable (m : (ℓ : Loc nD τ sig) → Buf (Elt Ideal) ℓ)

theorem g_at (a b : Vec Ideal S512x256 .f32) (j : S512x256.Idx) : k0_pay1 (F := Ideal) a b j = a j + b j := by
  pointwise [k0_pay1]

theorem delta_at (a b w p q : Vec Ideal S512x256 .f32) (j : S512x256.Idx) :
    k0_pay4 (F := Ideal) a b w p q j = delta (a j + b j) (w j) (p j) (q j) := by
  pointwise [k0_pay4, k0_pay3, k0_pay2, k0_pay1, delta, newM, newV]

theorem m_at (a b p : Vec Ideal S512x256 .f32) (j : S512x256.Idx) : k0_pay2 (F := Ideal) a b p j = newM (a j + b j) (p j) := by
  pointwise [k0_pay2, k0_pay1, newM]

theorem v_at (a b q : Vec Ideal S512x256 .f32) (j : S512x256.Idx) : k0_pay3 (F := Ideal) a b q j = newV (a j + b j) (q j) := by
  pointwise [k0_pay3, k0_pay1, newV]

/-- The two layers' rows one under the other. -/
abbrev rows (a : FVec Ideal S2x256x256 .f32) : FVec Ideal S512x256 .f32 :=
  shapeCast S512x256 a Cert.Kernel17Ideal.Gen.shapeCasts_S2x256x256_S512x256

theorem g_ref (a b : FVec Ideal S2x256x256 .f32) (j : S512x256.Idx) :
    Cert.Reference17Ideal.Read.val_main_v25 (F := Ideal) a b j = rows a j + rows b j := by
  pointwise [Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_v26, Cert.Reference17Ideal.Read.val_main_v27, Cert.Reference17Ideal.Read.val_main_v28, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7]

theorem delta_ref (a b w p q : FVec Ideal S2x256x256 .f32) (j : S512x256.Idx) :
    Cert.Reference17Ideal.Read.val_main_v26 (F := Ideal) a b w p q j
      = delta (rows a j + rows b j) (rows w j) (rows p j) (rows q j) := by
  pointwise [delta, newM, newV, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_v26, Cert.Reference17Ideal.Read.val_main_v27, Cert.Reference17Ideal.Read.val_main_v28, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7]

theorem m_ref (a b p : FVec Ideal S2x256x256 .f32) (j : S512x256.Idx) :
    Cert.Reference17Ideal.Read.val_main_v27 (F := Ideal) a b p j = newM (rows a j + rows b j) (rows p j) := by
  pointwise [newM, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_v26, Cert.Reference17Ideal.Read.val_main_v27, Cert.Reference17Ideal.Read.val_main_v28, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7]

theorem v_ref (a b q : FVec Ideal S2x256x256 .f32) (j : S512x256.Idx) :
    Cert.Reference17Ideal.Read.val_main_v28 (F := Ideal) a b q j = newV (rows a j + rows b j) (rows q j) := by
  pointwise [newV, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_v26, Cert.Reference17Ideal.Read.val_main_v27, Cert.Reference17Ideal.Read.val_main_v28, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference17Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference17Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference17Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference17Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel17Ideal_Reference17Ideal := by
  pair_intro
  · run_from Cert.Kernel17Ideal.Value.run_blocks m g
  · run_from Cert.Reference17Ideal.Value.run m' g'
    · exact (final_g m c).symm
    · exact (final_delta m c).symm
    · exact (final_m m c).symm
    · exact (final_v m c).symm

end Cert.AdamB

end
-- ==== Proof.AdamC.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamStep
public import Idealize.ShloMosaic.Lib.Pipeline.ValueKit
public import Idealize.ShloMosaic.Lib.Pointwise

/-! # The optimiser of the SSD mixer's output projection -/

@[expose] public section

set_option maxRecDepth 16384

noncomputable section

namespace Cert.AdamC

open Idealize.ShloMosaic Idealize.ShloMosaic.TcCoe Idealize.SL.Sem
open Idealize.ShloMosaic.Pipeline (Dat)
open Cert.AdamStep
open Cert.Kernel18Ideal Cert.Kernel18Ideal.Gen

variable (m : (ℓ : Loc nD τ sig) → Buf (Elt Ideal) ℓ)

theorem g_at (a b : Vec Ideal S512x256 .f32) (j : S512x256.Idx) : k0_pay1 (F := Ideal) a b j = a j + b j := by
  pointwise [k0_pay1]

theorem delta_at (a b w p q : Vec Ideal S512x256 .f32) (j : S512x256.Idx) :
    k0_pay4 (F := Ideal) a b w p q j = delta (a j + b j) (w j) (p j) (q j) := by
  pointwise [k0_pay4, k0_pay3, k0_pay2, k0_pay1, delta, newM, newV]

theorem m_at (a b p : Vec Ideal S512x256 .f32) (j : S512x256.Idx) : k0_pay2 (F := Ideal) a b p j = newM (a j + b j) (p j) := by
  pointwise [k0_pay2, k0_pay1, newM]

theorem v_at (a b q : Vec Ideal S512x256 .f32) (j : S512x256.Idx) : k0_pay3 (F := Ideal) a b q j = newV (a j + b j) (q j) := by
  pointwise [k0_pay3, k0_pay1, newV]

/-- The two layers' rows one under the other. -/
abbrev rows (a : FVec Ideal S2x768x256 .f32) : FVec Ideal S1536x256 .f32 :=
  shapeCast S1536x256 a Cert.Kernel18Ideal.Gen.shapeCasts_S2x768x256_S1536x256

theorem g_ref (a b : FVec Ideal S2x768x256 .f32) (j : S1536x256.Idx) :
    Cert.Reference18Ideal.Read.val_main_v25 (F := Ideal) a b j = rows a j + rows b j := by
  pointwise [Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_v26, Cert.Reference18Ideal.Read.val_main_v27, Cert.Reference18Ideal.Read.val_main_v28, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]

theorem delta_ref (a b w p q : FVec Ideal S2x768x256 .f32) (j : S1536x256.Idx) :
    Cert.Reference18Ideal.Read.val_main_v26 (F := Ideal) a b w p q j
      = delta (rows a j + rows b j) (rows w j) (rows p j) (rows q j) := by
  pointwise [delta, newM, newV, Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_v26, Cert.Reference18Ideal.Read.val_main_v27, Cert.Reference18Ideal.Read.val_main_v28, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]

theorem m_ref (a b p : FVec Ideal S2x768x256 .f32) (j : S1536x256.Idx) :
    Cert.Reference18Ideal.Read.val_main_v27 (F := Ideal) a b p j = newM (rows a j + rows b j) (rows p j) := by
  pointwise [newM, Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_v26, Cert.Reference18Ideal.Read.val_main_v27, Cert.Reference18Ideal.Read.val_main_v28, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]

theorem v_ref (a b q : FVec Ideal S2x768x256 .f32) (j : S1536x256.Idx) :
    Cert.Reference18Ideal.Read.val_main_v28 (F := Ideal) a b q j = newV (rows a j + rows b j) (rows q j) := by
  pointwise [newV, Cert.Reference18Ideal.Read.val_main_v0, Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_v25, Cert.Reference18Ideal.Read.val_main_v26, Cert.Reference18Ideal.Read.val_main_v27, Cert.Reference18Ideal.Read.val_main_v28, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference18Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference18Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference18Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference18Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel18Ideal_Reference18Ideal := by
  pair_intro
  · run_from Cert.Kernel18Ideal.Value.run_blocks m g
  · run_from Cert.Reference18Ideal.Value.run m' g'
    · exact (final_g m c).symm
    · exact (final_delta m c).symm
    · exact (final_m m c).symm
    · exact (final_v m c).symm

end Cert.AdamC

end
-- ==== Proof.AdamOut.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamStep
public import Idealize.ShloMosaic.Lib.Pipeline.ValueKit
public import Idealize.ShloMosaic.Lib.Pointwise

/-! # The optimiser of the layer's output product -/

@[expose] public section

set_option maxRecDepth 16384

noncomputable section

namespace Cert.AdamOut

open Idealize.ShloMosaic Idealize.ShloMosaic.TcCoe Idealize.SL.Sem
open Idealize.ShloMosaic.Pipeline (Dat)
open Cert.AdamStep
open Cert.Kernel19Ideal Cert.Kernel19Ideal.Gen

variable (m : (ℓ : Loc nD τ sig) → Buf (Elt Ideal) ℓ)

theorem g_at (a b : Vec Ideal S512x1024 .f32) (j : S512x1024.Idx) : k0_pay1 (F := Ideal) a b j = a j + b j := by
  pointwise [k0_pay1]

theorem delta_at (a b w p q : Vec Ideal S512x1024 .f32) (j : S512x1024.Idx) :
    k0_pay4 (F := Ideal) a b w p q j = delta (a j + b j) (w j) (p j) (q j) := by
  pointwise [k0_pay4, k0_pay3, k0_pay2, k0_pay1, delta, newM, newV]

theorem m_at (a b p : Vec Ideal S512x1024 .f32) (j : S512x1024.Idx) : k0_pay2 (F := Ideal) a b p j = newM (a j + b j) (p j) := by
  pointwise [k0_pay2, k0_pay1, newM]

theorem v_at (a b q : Vec Ideal S512x1024 .f32) (j : S512x1024.Idx) : k0_pay3 (F := Ideal) a b q j = newV (a j + b j) (q j) := by
  pointwise [k0_pay3, k0_pay1, newV]

/-- The two layers' rows one under the other. -/
abbrev rows (a : FVec Ideal S2x256x1024 .f32) : FVec Ideal S512x1024 .f32 :=
  shapeCast S512x1024 a Cert.Kernel19Ideal.Gen.shapeCasts_S2x256x1024_S512x1024

theorem g_ref (a b : FVec Ideal S2x256x1024 .f32) (j : S512x1024.Idx) :
    Cert.Reference19Ideal.Read.val_main_v25 (F := Ideal) a b j = rows a j + rows b j := by
  pointwise [Cert.Reference19Ideal.Read.val_main_v0, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_v26, Cert.Reference19Ideal.Read.val_main_v27, Cert.Reference19Ideal.Read.val_main_v28, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]

theorem delta_ref (a b w p q : FVec Ideal S2x256x1024 .f32) (j : S512x1024.Idx) :
    Cert.Reference19Ideal.Read.val_main_v26 (F := Ideal) a b w p q j
      = delta (rows a j + rows b j) (rows w j) (rows p j) (rows q j) := by
  pointwise [delta, newM, newV, Cert.Reference19Ideal.Read.val_main_v0, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_v26, Cert.Reference19Ideal.Read.val_main_v27, Cert.Reference19Ideal.Read.val_main_v28, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]

theorem m_ref (a b p : FVec Ideal S2x256x1024 .f32) (j : S512x1024.Idx) :
    Cert.Reference19Ideal.Read.val_main_v27 (F := Ideal) a b p j = newM (rows a j + rows b j) (rows p j) := by
  pointwise [newM, Cert.Reference19Ideal.Read.val_main_v0, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_v26, Cert.Reference19Ideal.Read.val_main_v27, Cert.Reference19Ideal.Read.val_main_v28, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]

theorem v_ref (a b q : FVec Ideal S2x256x1024 .f32) (j : S512x1024.Idx) :
    Cert.Reference19Ideal.Read.val_main_v28 (F := Ideal) a b q j = newV (rows a j + rows b j) (rows q j) := by
  pointwise [newV, Cert.Reference19Ideal.Read.val_main_v0, Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_v25, Cert.Reference19Ideal.Read.val_main_v26, Cert.Reference19Ideal.Read.val_main_v27, Cert.Reference19Ideal.Read.val_main_v28, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- After the run this result is the sum of the parts. -/
theorem final_g (c : Dev nD) : (dats m 0 c).arrAt 5 (cfgs 0).N
    = Cert.Reference19Ideal.Read.val_main_v25 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [g_at, g_ref]
  blk_point [iblk, V, idx t]

/-- After the run this result is the weight's step. -/
theorem final_delta (c : Dev nD) : (dats m 0 c).arrAt 6 (cfgs 0).N
    = Cert.Reference19Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [delta_at, delta_ref]
  blk_point [iblk, V, idx t]

/-- After the run this result is the new first moment. -/
theorem final_m (c : Dev nD) : (dats m 0 c).arrAt 7 (cfgs 0).N
    = Cert.Reference19Ideal.Read.val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [m_at, m_ref]
  blk_point [iblk, V, idx t]

/-- After the run this result is the new second moment. -/
theorem final_v (c : Dev nD) : (dats m 0 c).arrAt 8 (cfgs 0).N
    = Cert.Reference19Ideal.Read.val_main_v28 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [v_at, v_ref]
  blk_point [iblk, V, idx t]

theorem claim : Cert.algebraic_Kernel19Ideal_Reference19Ideal := by
  pair_intro
  · run_from Cert.Kernel19Ideal.Value.run_blocks m g
  · run_from Cert.Reference19Ideal.Value.run m' g'
    · exact (final_g m c).symm
    · exact (final_delta m c).symm
    · exact (final_m m c).symm
    · exact (final_v m c).symm

end Cert.AdamOut

end
-- ==== Proof.lean ====
/- The proof of the claim: each call's frame is the generated one, each value claim is proved in the
   module named after its call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Pre_finite_dact
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Dh0
public import proofs.«01_k».proof.Proof.Conv
public import proofs.«01_k».proof.Proof.Dh1
public import proofs.«01_k».proof.Proof.DwMain
public import proofs.«01_k».proof.Proof.DwS5
public import proofs.«01_k».proof.Proof.DwGlu
public import proofs.«01_k».proof.Proof.DprojA
public import proofs.«01_k».proof.Proof.DprojB
public import proofs.«01_k».proof.Proof.DprojC
public import proofs.«01_k».proof.Proof.DwOut
public import proofs.«01_k».proof.Proof.InMain
public import proofs.«01_k».proof.Proof.InS5
public import proofs.«01_k».proof.Proof.AdamIn
public import proofs.«01_k».proof.Proof.AdamGlu
public import proofs.«01_k».proof.Proof.AdamConv
public import proofs.«01_k».proof.Proof.AdamA
public import proofs.«01_k».proof.Proof.AdamB
public import proofs.«01_k».proof.Proof.AdamC
public import proofs.«01_k».proof.Proof.AdamOut
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Pre_finite_dact.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run Cert.Reference2Ideal.defs _ _).mono
    (fun r h => ⟨fun c => (h c).2.2.2, sem_eq_zero_of_no_sems (by decide) r.2⟩) (Cert.Reference2Ideal.Value.run m ρ),
  fun m ρ _ => (θ_run Cert.Reference2Ideal.defs _ _).mono
    (fun r h => ⟨fun c => (h c).2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono
    (fun r h => ⟨fun c => (h c).2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono
    (fun r h => ⟨fun c => (h c).2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run Cert.Reference11Ideal.defs _ _).mono
    (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run Cert.Reference12Ideal.defs _ _).mono
    (fun r h => ⟨fun c => (h c).2, sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => (θ_run Cert.Reference13Ideal.defs _ _).mono
    (fun r h => ⟨fun c => (h c).2.2.2.2, sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => (θ_run Cert.Reference14Ideal.defs _ _).mono
    (fun r h => ⟨fun c => (h c).2.2.2.2, sem_eq_zero_of_no_sems (by decide) r.2⟩) (Cert.Reference14Ideal.Value.run m ρ),
  fun m ρ _ => Cert.Kernel15.Gen.frame m ρ,
  fun m ρ _ => Cert.Kernel15Ideal.Gen.frame m ρ,
  fun m ρ _ => (θ_run Cert.Reference15Ideal.defs _ _).mono
    (fun r h => ⟨fun c => (h c).2.2.2.2, sem_eq_zero_of_no_sems (by decide) r.2⟩) (Cert.Reference15Ideal.Value.run m ρ),
  fun m ρ _ => Cert.Kernel16.Gen.frame m ρ,
  fun m ρ _ => Cert.Kernel16Ideal.Gen.frame m ρ,
  fun m ρ _ => (θ_run Cert.Reference16Ideal.defs _ _).mono
    (fun r h => ⟨fun c => (h c).2.2.2.2, sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run Cert.Reference17Ideal.defs _ _).mono
    (fun r h => ⟨fun c => (h c).2.2.2.2, sem_eq_zero_of_no_sems (by decide) r.2⟩) (Cert.Reference17Ideal.Value.run m ρ),
  fun m ρ _ => Cert.Kernel18.Gen.frame m ρ,
  fun m ρ _ => Cert.Kernel18Ideal.Gen.frame m ρ,
  fun m ρ _ => (θ_run Cert.Reference18Ideal.defs _ _).mono
    (fun r h => ⟨fun c => (h c).2.2.2.2, sem_eq_zero_of_no_sems (by decide) r.2⟩) (Cert.Reference18Ideal.Value.run m ρ),
  fun m ρ _ => Cert.Kernel19.Gen.frame m ρ,
  fun m ρ _ => Cert.Kernel19Ideal.Gen.frame m ρ,
  fun m ρ _ => (θ_run Cert.Reference19Ideal.defs _ _).mono
    (fun r h => ⟨fun c => (h c).2.2.2.2, sem_eq_zero_of_no_sems (by decide) r.2⟩) (Cert.Reference19Ideal.Value.run m ρ),
  trivial,
  Cert.Dh0.claim,
  trivial,
  Cert.Conv.claim,
  trivial,
  Cert.Dh1.claim,
  trivial,
  Cert.DwMain.claim,
  trivial,
  Cert.DwS5.claim,
  trivial,
  Cert.DwGlu.claim,
  trivial,
  Cert.DprojA.claim,
  trivial,
  Cert.DprojB.claim,
  trivial,
  Cert.DprojC.claim,
  trivial,
  Cert.DwOut.claim,
  trivial,
  Cert.InMain.claim,
  trivial,
  Cert.InS5.claim,
  trivial,
  Cert.AdamIn.claim,
  trivial,
  Cert.AdamGlu.claim,
  trivial,
  Cert.AdamConv.claim,
  trivial,
  Cert.AdamA.claim,
  trivial,
  Cert.AdamB.claim,
  trivial,
  Cert.AdamC.claim,
  trivial,
  Cert.AdamOut.claim⟩

end Cert.Proof

end
